-- ==== Defs.lean ====
def Pre_Kernel [hPre_nodes_in_range : Cert.Pre_nodes_in_range.Facts] (m : (ℓ : Loc Cert.Kernel.nD Cert.Kernel.τ Cert.Kernel.sig) → Buf (Elt Bits) ℓ) : Prop :=
  ∀ c : Dev Cert.Kernel.nD,
    (Cert.Pre_nodes_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_nodes_in_range : Cert.Pre_nodes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_nodes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nodes_in_range [hPre_nodes_in_range : Cert.Pre_nodes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nodes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_nodes_in_range : Cert.Pre_nodes_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_nodes_in_range [hReferenceIdeal : Cert.ReferenceIdeal.Facts] [hPre_nodes_in_range : Cert.Pre_nodes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nodes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_nodes_in_range : Cert.Pre_nodes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_13) = v0 c
          ∧ r.2.mem ((c.tc : Thread Cert.ReferenceIdeal.nD Cert.ReferenceIdeal.τ).loc Cert.ReferenceIdeal.main_v0_14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_nodes_in_range : Cert.Pre_nodes_in_range.Facts),
    quiescent_Kernel (hKernel := hKernel) (hPre_nodes_in_range := hPre_nodes_in_range)
    ∧ quiescent_KernelIdeal (hKernelIdeal := hKernelIdeal) (hPre_nodes_in_range := hPre_nodes_in_range)
    ∧ quiescent_ReferenceIdeal (hReferenceIdeal := hReferenceIdeal)
    ∧ quiescent_ReferenceIdeal_pre_nodes_in_range (hReferenceIdeal := hReferenceIdeal) (hPre_nodes_in_range := hPre_nodes_in_range)
    ∧ preserves_Kernel_KernelIdeal
    ∧ algebraic_KernelIdeal_ReferenceIdeal (hKernelIdeal := hKernelIdeal) (hReferenceIdeal := hReferenceIdeal) (hPre_nodes_in_range := hPre_nodes_in_range)
-- ==== Pre_nodes_in_range.lean ====
abbrev S200 : Shape := ⟨1, ![200]⟩
abbrev S200x16 : Shape := ⟨2, ![200, 16]⟩
abbrev S10000x128 : Shape := ⟨2, ![10000, 128]⟩
abbrev S10000 : Shape := ⟨1, ![10000]⟩
abbrev S384x128 : Shape := ⟨2, ![384, 128]⟩
abbrev S384 : Shape := ⟨1, ![384]⟩
abbrev S128x272 : Shape := ⟨2, ![128, 272]⟩
abbrev S128 : Shape := ⟨1, ![128]⟩
abbrev S128x128 : Shape := ⟨2, ![128, 128]⟩
abbrev S_ : Shape := ⟨0, ![]⟩

class Facts : Prop where
  bcast_S_S200 : S_.BroadcastsInDim S200 (![] : Fin 0 → Fin S200.rank)
  reducesTo_S200_S_d0 : S200.ReducesTo [0] S_
  h_S_ : 0 < S_.numel

variable [Facts]

def fn {F : FTy → Type} [FloatOps F] (main_arg0 : IVec S200 32) (main_arg1 : IVec S200 32) (main_arg2 : FVec F S200x16 .f32) (main_arg3 : FVec F S200 .f32) (main_arg4 : FVec F S10000x128 .f32) (main_arg5 : FVec F S10000 .f32) (main_arg6 : FVec F S384x128 .f32) (main_arg7 : FVec F S384x128 .f32) (main_arg8 : FVec F S384 .f32) (main_arg9 : FVec F S384 .f32) (main_arg10 : FVec F S128x272 .f32) (main_arg11 : FVec F S128 .f32) (main_arg12 : FVec F S128x128 .f32) (main_arg13 : FVec F S128 .f32) : IVec S_ 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 1 := constantI S_ 1 1#1
  let main_v2 : IVec S_ 1 := (fun x v => Host.reduce IntOp.andi x v reducesTo_S200_S_d0 h_S_) main_v1 main_c_0
  let main_c_1 : IVec S_ 32 := constantI S_ 32 10000#32
  let main_v3 : IVec S200 32 := broadcastInDim S200 ![] bcast_S_S200 main_c_1
  let main_v4 : IVec S200 1 := cmpi .slt main_arg0 main_v3
  let main_c_2 : IVec S_ 1 := constantI S_ 1 1#1
  let main_v5 : IVec S_ 1 := (fun x v => Host.reduce IntOp.andi x v reducesTo_S200_S_d0 h_S_) main_v4 main_c_2
  let main_v6 : IVec S_ 1 := andi main_v2 main_v5
  let main_c_3 : IVec S_ 32 := constantI S_ 32 0#32
  let main_v7 : IVec S200 32 := broadcastInDim S200 ![] bcast_S_S200 main_c_3
  let main_v8 : IVec S200 1 := cmpi .sge main_arg1 main_v7
  let main_c_4 : IVec S_ 1 := constantI S_ 1 1#1
  let main_v9 : IVec S_ 1 := (fun x v => Host.reduce IntOp.andi x v reducesTo_S200_S_d0 h_S_) main_v8 main_c_4
  let main_v10 : IVec S_ 1 := andi main_v6 main_v9
  let main_c_5 : IVec S_ 32 := constantI S_ 32 10000#32
  let main_v11 : IVec S200 32 := broadcastInDim S200 ![] bcast_S_S200 main_c_5
  let main_v12 : IVec S200 1 := cmpi .slt main_arg1 main_v11
  let main_c_6 : IVec S_ 1 := constantI S_ 1 1#1
  let main_v13 : IVec S_ 1 := (fun x v => Host.reduce IntOp.andi x v reducesTo_S200_S_d0 h_S_) main_v12 main_c_6
  let main_v14 : IVec S_ 1 := andi main_v10 main_v13
  main_v14
-- ==== Kernel.lean ====
abbrev S200 : Shape := ⟨1, ![200]⟩
abbrev S200x16 : Shape := ⟨2, ![200, 16]⟩
abbrev S10000x128 : Shape := ⟨2, ![10000, 128]⟩
abbrev S10000 : Shape := ⟨1, ![10000]⟩
abbrev S384x128 : Shape := ⟨2, ![384, 128]⟩
abbrev S384 : Shape := ⟨1, ![384]⟩
abbrev S128x272 : Shape := ⟨2, ![128, 272]⟩
abbrev S128 : Shape := ⟨1, ![128]⟩
abbrev S128x128 : Shape := ⟨2, ![128, 128]⟩
abbrev S25x8x16 : Shape := ⟨3, ![25, 8, 16]⟩
abbrev S128x16 : Shape := ⟨2, ![128, 16]⟩
abbrev S16x128 : Shape := ⟨2, ![16, 128]⟩
abbrev S1x128 : Shape := ⟨2, ![1, 128]⟩
abbrev S128x384 : Shape := ⟨2, ![128, 384]⟩
abbrev S1x384 : Shape := ⟨2, ![1, 384]⟩
abbrev S1250x8x128 : Shape := ⟨3, ![1250, 8, 128]⟩
abbrev S1250x8x1 : Shape := ⟨3, ![1250, 8, 1]⟩
abbrev S25x8x128 : Shape := ⟨3, ![25, 8, 128]⟩
abbrev S200x128 : Shape := ⟨2, ![200, 128]⟩
abbrev S8x128 : Shape := ⟨2, ![8, 128]⟩
abbrev S8x1 : Shape := ⟨2, ![8, 1]⟩
abbrev S1 : Shape := ⟨1, ![1]⟩
abbrev S1x8x1 : Shape := ⟨3, ![1, 8, 1]⟩
abbrev S1x1 : Shape := ⟨2, ![1, 1]⟩
abbrev S1x8x128 : Shape := ⟨3, ![1, 8, 128]⟩
abbrev S2x128 : Shape := ⟨2, ![2, 128]⟩
abbrev S2x384 : Shape := ⟨2, ![2, 384]⟩

abbrev nBuf : Space → Nat
  | .hbm => 34
  | .vmem => 16
  | .smem => 3
  | _ => 0

abbrev bufTy : (tb : Table) → Fin (tcTables nBuf tb) → BufTy
  | .hbm, ⟨0, _⟩ => ⟨S200, .i32⟩
  | .hbm, ⟨1, _⟩ => ⟨S200, .i32⟩
  | .hbm, ⟨2, _⟩ => ⟨S200x16, .f32⟩
  | .hbm, ⟨3, _⟩ => ⟨S200, .f32⟩
  | .hbm, ⟨4, _⟩ => ⟨S10000x128, .f32⟩
  | .hbm, ⟨5, _⟩ => ⟨S10000, .f32⟩
  | .hbm, ⟨6, _⟩ => ⟨S384x128, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S128x272, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S25x8x16, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x16, .f32⟩
  | .hbm, ⟨20, _⟩ => ⟨S16x128, .f32⟩
  | .hbm, ⟨21, _⟩ => ⟨S1x128, .f32⟩
  | .hbm, ⟨22, _⟩ => ⟨S128x128, .f32⟩
  | .hbm, ⟨23, _⟩ => ⟨S1x128, .f32⟩
  | .hbm, ⟨24, _⟩ => ⟨S128x384, .f32⟩
  | .hbm, ⟨25, _⟩ => ⟨S1x384, .f32⟩
  | .hbm, ⟨26, _⟩ => ⟨S128x384, .f32⟩
  | .hbm, ⟨27, _⟩ => ⟨S1x384, .f32⟩
  | .hbm, ⟨28, _⟩ => ⟨S1250x8x128, .f32⟩
  | .hbm, ⟨29, _⟩ => ⟨S1250x8x1, .f32⟩
  | .hbm, ⟨30, _⟩ => ⟨S1250x8x128, .f32⟩
  | .hbm, ⟨31, _⟩ => ⟨S1250x8x1, .f32⟩
  | .hbm, ⟨32, _⟩ => ⟨S10000x128, .f32⟩
  | .hbm, ⟨33, _⟩ => ⟨S10000, .f32⟩
  | .local _ .vmem, ⟨0, _⟩ => ⟨S25x8x16, .f32⟩
  | .local _ .vmem, ⟨1, _⟩ => ⟨S128x128, .f32⟩
  | .local _ .vmem, ⟨2, _⟩ => ⟨S128x128, .f32⟩
  | .local _ .vmem, ⟨3, _⟩ => ⟨S16x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x384, .f32⟩
  | .local _ .vmem, ⟨8, _⟩ => ⟨S1x384, .f32⟩
  | .local _ .vmem, ⟨9, _⟩ => ⟨S128x384, .f32⟩
  | .local _ .vmem, ⟨10, _⟩ => ⟨S1x384, .f32⟩
  | .local _ .vmem, ⟨11, _⟩ => ⟨S1250x8x128, .f32⟩
  | .local _ .vmem, ⟨12, _⟩ => ⟨S1250x8x1, .f32⟩
  | .local _ .vmem, ⟨13, _⟩ => ⟨S1250x8x128, .f32⟩
  | .local _ .vmem, ⟨14, _⟩ => ⟨S1250x8x1, .f32⟩
  | .local _ .vmem, ⟨15, _⟩ => ⟨S25x8x128, .f32⟩
  | .local _ .smem, ⟨0, _⟩ => ⟨S200, .i32⟩
  | .local _ .smem, ⟨1, _⟩ => ⟨S200, .i32⟩
  | .local _ .smem, ⟨2, _⟩ => ⟨S200, .f32⟩
  | _, _ => ⟨S200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v17 : Ref sig .tc := ⟨.hbm, 32, rfl⟩
abbrev main_v18 : Ref sig .tc := ⟨.hbm, 33, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_scratch0 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c200_i32 : BitVec 32 := 200#32
  let v38 : BitVec 32 := Scalar.addi c0_i32 c200_i32
  let c1_i32 : BitVec 32 := 1#32
  ⟨c0_i32, v38, c1_i32⟩
def k0_off1 (k0_t1 : Fin k0_t1_loop.trips) : Fin 1 → Nat :=
  let c0_i32 : BitVec 32 := 0#32
  let c1_i32 : BitVec 32 := 1#32
  let arg19 : BitVec 32 := Scf.iv c0_i32 c1_i32 k0_t1
  let v39 : Index := Scalar.indexCast arg19
  ![v39.toNat]
def k0_off2 (v40 : BitVec 32) : Fin 3 → Nat :=
  let c0_i32_38 : BitVec 32 := 0#32
  let v46 : BitVec 1 := Scalar.cmpi .sgt v40 c0_i32_38
  let v47 : BitVec 32 := Scalar.extui v46
  let c0_i32_39 : BitVec 32 := 0#32
  let v48 : BitVec 1 := Scalar.cmpi .slt v40 c0_i32_39
  let v49 : BitVec 32 := Scalar.extui v48
  let v50 : BitVec 32 := Scalar.subi v47 v49
  let c8_i32 : BitVec 32 := 8#32
  let c0_i32_40 : BitVec 32 := 0#32
  let v51 : BitVec 1 := Scalar.cmpi .sgt c8_i32 c0_i32_40
  let v52 : BitVec 32 := Scalar.extui v51
  let c0_i32_41 : BitVec 32 := 0#32
  let v53 : BitVec 1 := Scalar.cmpi .slt c8_i32 c0_i32_41
  let v54 : BitVec 32 := Scalar.extui v53
  let v55 : BitVec 32 := Scalar.subi v52 v54
  let v56 : BitVec 1 := Scalar.cmpi .ne v50 v55
  let v57 : BitVec 32 := Scalar.remsi v40 c8_i32
  let c0_i32_42 : BitVec 32 := 0#32
  let v58 : BitVec 1 := Scalar.cmpi .ne v57 c0_i32_42
  let v59 : BitVec 1 := Scalar.andi v56 v58
  let v45 : BitVec 32 := Scalar.divsi v40 c8_i32
  let c1_i32_43 : BitVec 32 := 1#32
  let v60 : BitVec 32 := Scalar.subi v45 c1_i32_43
  let v61 : BitVec 32 := Scalar.select v59 v60 v45
  let v99 : Index := Scalar.indexCast v61
  let c0_63 : Index := 0#32
  let c0_64 : Index := 0#32
  ![v99.toNat, 0, 0]

def k0_off3 (v42 : BitVec 32) : Fin 3 → Nat :=
  let c0_i32_51 : BitVec 32 := 0#32
  let v73 : BitVec 1 := Scalar.cmpi .sgt v42 c0_i32_51
  let v74 : BitVec 32 := Scalar.extui v73
  let c0_i32_52 : BitVec 32 := 0#32
  let v75 : BitVec 1 := Scalar.cmpi .slt v42 c0_i32_52
  let v76 : BitVec 32 := Scalar.extui v75
  let v77 : BitVec 32 := Scalar.subi v74 v76
  let c8_i32_50 : BitVec 32 := 8#32
  let c0_i32_53 : BitVec 32 := 0#32
  let v78 : BitVec 1 := Scalar.cmpi .sgt c8_i32_50 c0_i32_53
  let v79 : BitVec 32 := Scalar.extui v78
  let c0_i32_54 : BitVec 32 := 0#32
  let v80 : BitVec 1 := Scalar.cmpi .slt c8_i32_50 c0_i32_54
  let v81 : BitVec 32 := Scalar.extui v80
  let v82 : BitVec 32 := Scalar.subi v79 v81
  let v83 : BitVec 1 := Scalar.cmpi .ne v77 v82
  let v84 : BitVec 32 := Scalar.remsi v42 c8_i32_50
  let c0_i32_55 : BitVec 32 := 0#32
  let v85 : BitVec 1 := Scalar.cmpi .ne v84 c0_i32_55
  let v86 : BitVec 1 := Scalar.andi v83 v85
  let v72 : BitVec 32 := Scalar.divsi v42 c8_i32_50
  let c1_i32_56 : BitVec 32 := 1#32
  let v87 : BitVec 32 := Scalar.subi v72 c1_i32_56
  let v88 : BitVec 32 := Scalar.select v86 v87 v72
  let v108 : Index := Scalar.indexCast v88
  let c0_67 : Index := 0#32
  let c0_68 : Index := 0#32
  ![v108.toNat, 0, 0]

def k0_off4 (v40 : BitVec 32) : Fin 3 → Nat :=
  let c0_i32_38 : BitVec 32 := 0#32
  let v46 : BitVec 1 := Scalar.cmpi .sgt v40 c0_i32_38
  let v47 : BitVec 32 := Scalar.extui v46
  let c0_i32_39 : BitVec 32 := 0#32
  let v48 : BitVec 1 := Scalar.cmpi .slt v40 c0_i32_39
  let v49 : BitVec 32 := Scalar.extui v48
  let v50 : BitVec 32 := Scalar.subi v47 v49
  let c8_i32 : BitVec 32 := 8#32
  let c0_i32_40 : BitVec 32 := 0#32
  let v51 : BitVec 1 := Scalar.cmpi .sgt c8_i32 c0_i32_40
  let v52 : BitVec 32 := Scalar.extui v51
  let c0_i32_41 : BitVec 32 := 0#32
  let v53 : BitVec 1 := Scalar.cmpi .slt c8_i32 c0_i32_41
  let v54 : BitVec 32 := Scalar.extui v53
  let v55 : BitVec 32 := Scalar.subi v52 v54
  let v56 : BitVec 1 := Scalar.cmpi .ne v50 v55
  let v57 : BitVec 32 := Scalar.remsi v40 c8_i32
  let c0_i32_42 : BitVec 32 := 0#32
  let v58 : BitVec 1 := Scalar.cmpi .ne v57 c0_i32_42
  let v59 : BitVec 1 := Scalar.andi v56 v58
  let v45 : BitVec 32 := Scalar.divsi v40 c8_i32
  let c1_i32_43 : BitVec 32 := 1#32
  let v60 : BitVec 32 := Scalar.subi v45 c1_i32_43
  let v61 : BitVec 32 := Scalar.select v59 v60 v45
  let v131 : Index := Scalar.indexCast v61
  let c0_75 : Index := 0#32
  let c0_76 : Index := 0#32
  ![v131.toNat, 0, 0]
def k0_off5 (v42 : BitVec 32) : Fin 3 → Nat :=
  let c0_i32_51 : BitVec 32 := 0#32
  let v73 : BitVec 1 := Scalar.cmpi .sgt v42 c0_i32_51
  let v74 : BitVec 32 := Scalar.extui v73
  let c0_i32_52 : BitVec 32 := 0#32
  let v75 : BitVec 1 := Scalar.cmpi .slt v42 c0_i32_52
  let v76 : BitVec 32 := Scalar.extui v75
  let v77 : BitVec 32 := Scalar.subi v74 v76
  let c8_i32_50 : BitVec 32 := 8#32
  let c0_i32_53 : BitVec 32 := 0#32
  let v78 : BitVec 1 := Scalar.cmpi .sgt c8_i32_50 c0_i32_53
  let v79 : BitVec 32 := Scalar.extui v78
  let c0_i32_54 : BitVec 32 := 0#32
  let v80 : BitVec 1 := Scalar.cmpi .slt c8_i32_50 c0_i32_54
  let v81 : BitVec 32 := Scalar.extui v80
  let v82 : BitVec 32 := Scalar.subi v79 v81
  let v83 : BitVec 1 := Scalar.cmpi .ne v77 v82
  let v84 : BitVec 32 := Scalar.remsi v42 c8_i32_50
  let c0_i32_55 : BitVec 32 := 0#32
  let v85 : BitVec 1 := Scalar.cmpi .ne v84 c0_i32_55
  let v86 : BitVec 1 := Scalar.andi v83 v85
  let v72 : BitVec 32 := Scalar.divsi v42 c8_i32_50
  let c1_i32_56 : BitVec 32 := 1#32
  let v87 : BitVec 32 := Scalar.subi v72 c1_i32_56
  let v88 : BitVec 32 := Scalar.select v86 v87 v72
  let v142 : Index := Scalar.indexCast v88
  let c0_79 : Index := 0#32
  let c0_80 : Index := 0#32
  ![v142.toNat, 0, 0]

def k0_chk2 (v42 : BitVec 32) : Prop :=
  (∀ a, (k0_off3 v42) a + S1x8x1.size a ≤ S1250x8x1.size a) ∧
  (∀ a, (k0_off5 v42) a + S1x8x128.size a ≤ S1250x8x128.size a)
theorem k0_off3_inb : ∀ (v42 : BitVec 32) (k0_hw2 : k0_chk2 v42), ∀ a, (k0_off3 v42) a + S1x8x1.size a ≤ S1250x8x1.size a := fun v42 k0_hw2 => k0_hw2.1
theorem k0_off5_inb : ∀ (v42 : BitVec 32) (k0_hw2 : k0_chk2 v42), ∀ a, (k0_off5 v42) a + S1x8x128.size a ≤ S1250x8x128.size a := fun v42 k0_hw2 => k0_hw2.2

def k0_off6 (k0_t1 : Fin k0_t1_loop.trips) : Fin 3 → Nat :=
  let c0_i32 : BitVec 32 := 0#32
  let c1_i32 : BitVec 32 := 1#32
  let arg19 : BitVec 32 := Scf.iv c0_i32 c1_i32 k0_t1
  let c0_i32_84 : BitVec 32 := 0#32
  let v154 : BitVec 1 := Scalar.cmpi .sgt arg19 c0_i32_84
  let v155 : BitVec 32 := Scalar.extui v154
  let c0_i32_85 : BitVec 32 := 0#32
  let v156 : BitVec 1 := Scalar.cmpi .slt arg19 c0_i32_85
  let v157 : BitVec 32 := Scalar.extui v156
  let v158 : BitVec 32 := Scalar.subi v155 v157
  let c8_i32_83 : BitVec 32 := 8#32
  let c0_i32_86 : BitVec 32 := 0#32
  let v159 : BitVec 1 := Scalar.cmpi .sgt c8_i32_83 c0_i32_86
  let v160 : BitVec 32 := Scalar.extui v159
  let c0_i32_87 : BitVec 32 := 0#32
  let v161 : BitVec 1 := Scalar.cmpi .slt c8_i32_83 c0_i32_87
  let v162 : BitVec 32 := Scalar.extui v161
  let v163 : BitVec 32 := Scalar.subi v160 v162
  let v164 : BitVec 1 := Scalar.cmpi .ne v158 v163
  let v165 : BitVec 32 := Scalar.remsi arg19 c8_i32_83
  let c0_i32_88 : BitVec 32 := 0#32
  let v166 : BitVec 1 := Scalar.cmpi .ne v165 c0_i32_88
  let v167 : BitVec 1 := Scalar.andi v164 v166
  let v153 : BitVec 32 := Scalar.divsi arg19 c8_i32_83
  let c1_i32_89 : BitVec 32 := 1#32
  let v168 : BitVec 32 := Scalar.subi v153 c1_i32_89
  let v169 : BitVec 32 := Scalar.select v167 v168 v153
  let v170 : Index := Scalar.indexCast v169
  let c0_90 : Index := 0#32
  let c0_91 : Index := 0#32
  ![v170.toNat, 0, 0]
def k0_off7 (v40 : BitVec 32) : Fin 3 → Nat :=
  let c0_i32_38 : BitVec 32 := 0#32
  let v46 : BitVec 1 := Scalar.cmpi .sgt v40 c0_i32_38
  let v47 : BitVec 32 := Scalar.extui v46
  let c0_i32_39 : BitVec 32 := 0#32
  let v48 : BitVec 1 := Scalar.cmpi .slt v40 c0_i32_39
  let v49 : BitVec 32 := Scalar.extui v48
  let v50 : BitVec 32 := Scalar.subi v47 v49
  let c8_i32 : BitVec 32 := 8#32
  let c0_i32_40 : BitVec 32 := 0#32
  let v51 : BitVec 1 := Scalar.cmpi .sgt c8_i32 c0_i32_40
  let v52 : BitVec 32 := Scalar.extui v51
  let c0_i32_41 : BitVec 32 := 0#32
  let v53 : BitVec 1 := Scalar.cmpi .slt c8_i32 c0_i32_41
  let v54 : BitVec 32 := Scalar.extui v53
  let v55 : BitVec 32 := Scalar.subi v52 v54
  let v56 : BitVec 1 := Scalar.cmpi .ne v50 v55
  let v57 : BitVec 32 := Scalar.remsi v40 c8_i32
  let c0_i32_42 : BitVec 32 := 0#32
  let v58 : BitVec 1 := Scalar.cmpi .ne v57 c0_i32_42
  let v59 : BitVec 1 := Scalar.andi v56 v58
  let v45 : BitVec 32 := Scalar.divsi v40 c8_i32
  let c1_i32_43 : BitVec 32 := 1#32
  let v60 : BitVec 32 := Scalar.subi v45 c1_i32_43
  let v61 : BitVec 32 := Scalar.select v59 v60 v45
  let v239 : Index := Scalar.indexCast v61
  let c0_111 : Index := 0#32
  let c0_112 : Index := 0#32
  ![v239.toNat, 0, 0]

def k0_chk1 (v40 : BitVec 32) : Prop :=
  (∀ a, (k0_off2 v40) a + S1x8x1.size a ≤ S1250x8x1.size a) ∧
  (∀ a, (k0_off4 v40) a + S1x8x128.size a ≤ S1250x8x128.size a) ∧
  (∀ a, (k0_off7 v40) a + S1x8x1.size a ≤ S1250x8x1.size a)
theorem k0_off2_inb : ∀ (v40 : BitVec 32) (k0_hw1 : k0_chk1 v40), ∀ a, (k0_off2 v40) a + S1x8x1.size a ≤ S1250x8x1.size a := fun v40 k0_hw1 => k0_hw1.1
theorem k0_off4_inb : ∀ (v40 : BitVec 32) (k0_hw1 : k0_chk1 v40), ∀ a, (k0_off4 v40) a + S1x8x128.size a ≤ S1250x8x128.size a := fun v40 k0_hw1 => k0_hw1.2.1
theorem k0_off7_inb : ∀ (v40 : BitVec 32) (k0_hw1 : k0_chk1 v40), ∀ a, (k0_off7 v40) a + S1x8x1.size a ≤ S1250x8x1.size a := fun v40 k0_hw1 => k0_hw1.2.2

abbrev stage0_0 : Fin 1 → Memref sig .tc .smem S200 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S200 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S25x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1250x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1250x8x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1250x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1250x8x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferenceIdeal.lean ====
abbrev S200 : Shape := ⟨1, ![200]⟩
abbrev S200x16 : Shape := ⟨2, ![200, 16]⟩
abbrev S10000x128 : Shape := ⟨2, ![10000, 128]⟩
abbrev S10000 : Shape := ⟨1, ![10000]⟩
abbrev S384x128 : Shape := ⟨2, ![384, 128]⟩
abbrev S384 : Shape := ⟨1, ![384]⟩
abbrev S128x272 : Shape := ⟨2, ![128, 272]⟩
abbrev S128 : Shape := ⟨1, ![128]⟩
abbrev S128x128 : Shape := ⟨2, ![128, 128]⟩
abbrev S_ : Shape := ⟨0, ![]⟩
abbrev S1 : Shape := ⟨1, ![1]⟩
abbrev S1x16 : Shape := ⟨2, ![1, 16]⟩
abbrev S16 : Shape := ⟨1, ![16]⟩
abbrev S1x128 : Shape := ⟨2, ![1, 128]⟩
abbrev S272 : Shape := ⟨1, ![272]⟩
abbrev S272x128 : Shape := ⟨2, ![272, 128]⟩
abbrev S128x384 : Shape := ⟨2, ![128, 384]⟩

abbrev nBuf : Space → Nat
  | .hbm => 219
  | .vmem => 0
  | .smem => 0
  | _ => 0

abbrev hbmTy0_0 (i : Nat) : BufTy := match i % 128 with
  | 0 => ⟨S200, .i32⟩
  | 1 => ⟨S200, .i32⟩
  | 2 => ⟨S200x16, .f32⟩
  | 3 => ⟨S200, .f32⟩
  | 4 => ⟨S10000x128, .f32⟩
  | 5 => ⟨S10000, .f32⟩
  | 6 => ⟨S384x128, .f32⟩
  | 7 => ⟨S384x128, .f32⟩
  | 8 => ⟨S384, .f32⟩
  | 9 => ⟨S384, .f32⟩
  | 10 => ⟨S128x272, .f32⟩
  | 11 => ⟨S128, .f32⟩
  | 12 => ⟨S128x128, .f32⟩
  | 13 => ⟨S128, .f32⟩
  | 14 => ⟨S_, .i32⟩
  | 15 => ⟨S200, .i32⟩
  | 16 => ⟨S200, .i32⟩
  | 17 => ⟨S200x16, .f32⟩
  | 18 => ⟨S200, .f32⟩
  | 19 => ⟨S128x272, .f32⟩
  | 20 => ⟨S128, .f32⟩
  | 21 => ⟨S128x128, .f32⟩
  | 22 => ⟨S128, .f32⟩
  | 23 => ⟨S384x128, .f32⟩
  | 24 => ⟨S384, .f32⟩
  | 25 => ⟨S384x128, .f32⟩
  | 26 => ⟨S384, .f32⟩
  | 27 => ⟨S_, .i32⟩
  | 28 => ⟨S10000x128, .f32⟩
  | 29 => ⟨S10000, .f32⟩
  | 30 => ⟨S_, .i32⟩
  | 31 => ⟨S_, .i1⟩
  | 32 => ⟨S1, .i32⟩
  | 33 => ⟨S_, .i32⟩
  | 34 => ⟨S1, .i32⟩
  | 35 => ⟨S_, .i32⟩
  | 36 => ⟨S_, .i32⟩
  | 37 => ⟨S1x16, .f32⟩
  | 38 => ⟨S16, .f32⟩
  | 39 => ⟨S1, .f32⟩
  | 40 => ⟨S_, .f32⟩
  | 41 => ⟨S_, .i32⟩
  | 42 => ⟨S_, .i1⟩
  | 43 => ⟨S_, .i32⟩
  | 44 => ⟨S_, .i32⟩
  | 45 => ⟨S_, .i32⟩
  | 46 => ⟨S1, .f32⟩
  | 47 => ⟨S_, .f32⟩
  | 48 => ⟨S_, .f32⟩
  | 49 => ⟨S_, .f32⟩
  | 50 => ⟨S_, .f32⟩
  | 51 => ⟨S_, .i32⟩
  | 52 => ⟨S_, .i1⟩
  | 53 => ⟨S_, .i32⟩
  | 54 => ⟨S_, .i32⟩
  | 55 => ⟨S_, .i32⟩
  | 56 => ⟨S1, .f32⟩
  | 57 => ⟨S_, .f32⟩
  | 58 => ⟨S_, .f32⟩
  | 59 => ⟨S_, .f32⟩
  | 60 => ⟨S_, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x128, .f32⟩
  | 75 => ⟨S128, .f32⟩
  | 76 => ⟨S_, .f32⟩
  | 77 => ⟨S_, .f32⟩
  | 78 => ⟨S_, .f32⟩
  | 79 => ⟨S128, .f32⟩
  | 80 => ⟨S128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x128, .f32⟩
  | 95 => ⟨S128, .f32⟩
  | 96 => ⟨S_, .f32⟩
  | 97 => ⟨S_, .f32⟩
  | 98 => ⟨S_, .f32⟩
  | 99 => ⟨S128, .f32⟩
  | 100 => ⟨S128, .f32⟩
  | 101 => ⟨S272, .f32⟩
  | 102 => ⟨S272x128, .f32⟩
  | 103 => ⟨S128, .f32⟩
  | 104 => ⟨S128, .f32⟩
  | 105 => ⟨S_, .f32⟩
  | 106 => ⟨S128, .f32⟩
  | 107 => ⟨S128, .f32⟩
  | 108 => ⟨S128x128, .f32⟩
  | 109 => ⟨S128, .f32⟩
  | 110 => ⟨S128, .f32⟩
  | 111 => ⟨S128x384, .f32⟩
  | 112 => ⟨S384, .f32⟩
  | 113 => ⟨S384, .f32⟩
  | 114 => ⟨S128x384, .f32⟩
  | 115 => ⟨S384, .f32⟩
  | 116 => ⟨S384, .f32⟩
  | 117 => ⟨S128, .f32⟩
  | 118 => ⟨S128, .f32⟩
  | 119 => ⟨S128, .f32⟩
  | 120 => ⟨S128, .f32⟩
  | 121 => ⟨S128, .f32⟩
  | 122 => ⟨S128, .f32⟩
  | 123 => ⟨S128, .f32⟩
  | 124 => ⟨S128, .f32⟩
  | 125 => ⟨S128, .f32⟩
  | 126 => ⟨S_, .f32⟩
  | 127 => ⟨S128, .f32⟩
  | _ => ⟨S200, .i32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S128, .f32⟩
  | 20 => ⟨S128, .f32⟩
  | 21 => ⟨S128, .f32⟩
  | 22 => ⟨S128x384, .f32⟩
  | 23 => ⟨S384, .f32⟩
  | 24 => ⟨S384, .f32⟩
  | 25 => ⟨S128x384, .f32⟩
  | 26 => ⟨S384, .f32⟩
  | 27 => ⟨S384, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S128, .f32⟩
  | 35 => ⟨S128, .f32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S_, .f32⟩
  | 56 => ⟨S128, .f32⟩
  | 57 => ⟨S128, .f32⟩
  | 58 => ⟨S128, .f32⟩
  | 59 => ⟨S128, .f32⟩
  | 60 => ⟨S128, .f32⟩
  | 61 => ⟨S_, .i32⟩
  | 62 => ⟨S_, .i1⟩
  | 63 => ⟨S_, .i32⟩
  | 64 => ⟨S_, .i32⟩
  | 65 => ⟨S_, .i32⟩
  | 66 => ⟨S1, .i32⟩
  | 67 => ⟨S10000x128, .f32⟩
  | 68 => ⟨S_, .i32⟩
  | 69 => ⟨S_, .i1⟩
  | 70 => ⟨S_, .i32⟩
  | 71 => ⟨S_, .i32⟩
  | 72 => ⟨S_, .i32⟩
  | 73 => ⟨S1, .i32⟩
  | 74 => ⟨S10000x128, .f32⟩
  | 75 => ⟨S_, .i32⟩
  | 76 => ⟨S_, .i1⟩
  | 77 => ⟨S_, .i32⟩
  | 78 => ⟨S_, .i32⟩
  | 79 => ⟨S_, .i32⟩
  | 80 => ⟨S1, .i32⟩
  | 81 => ⟨S10000, .f32⟩
  | 82 => ⟨S_, .i32⟩
  | 83 => ⟨S_, .i1⟩
  | 84 => ⟨S_, .i32⟩
  | 85 => ⟨S_, .i32⟩
  | 86 => ⟨S_, .i32⟩
  | 87 => ⟨S1, .i32⟩
  | 88 => ⟨S10000, .f32⟩
  | 89 => ⟨S_, .i32⟩
  | 90 => ⟨S_, .i32⟩
  | _ => ⟨S200, .i32⟩

abbrev hbmTy (i : Nat) : BufTy := match i / 128 with
  | 0 => hbmTy0_0 i
  | 1 => hbmTy0_1 i
  | _ => ⟨S200, .i32⟩

abbrev bufTy : (tb : Table) → Fin (tcTables nBuf tb) → BufTy
  | .hbm, ⟨i, _⟩ => hbmTy i
  | _, _ => ⟨S200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev main_v0_12 : Ref sig .tc := ⟨.hbm, 27, rfl⟩
abbrev main_v0_13 : Ref sig .tc := ⟨.hbm, 28, rfl⟩
abbrev main_v0_14 : Ref sig .tc := ⟨.hbm, 29, rfl⟩
abbrev main_while0c_c_14 : Ref sig .tc := ⟨.hbm, 30, rfl⟩
abbrev main_while0c_v1 : Ref sig .tc := ⟨.hbm, 31, rfl⟩
abbrev main_while0b_call0_v0 : Ref sig .tc := ⟨.hbm, 32, rfl⟩
abbrev main_while0b_v1 : Ref sig .tc := ⟨.hbm, 33, rfl⟩
abbrev main_while0b_call1_v0 : Ref sig .tc := ⟨.hbm, 34, rfl⟩
abbrev main_while0b_v2 : Ref sig .tc := ⟨.hbm, 35, rfl⟩
abbrev main_while0b_call2_c : Ref sig .tc := ⟨.hbm, 36, rfl⟩
abbrev main_while0b_call2_v0 : Ref sig .tc := ⟨.hbm, 37, rfl⟩
abbrev main_while0b_v3 : Ref sig .tc := ⟨.hbm, 38, rfl⟩
abbrev main_while0b_call3_v0 : Ref sig .tc := ⟨.hbm, 39, rfl⟩
abbrev main_while0b_v4 : Ref sig .tc := ⟨.hbm, 40, rfl⟩
abbrev main_while0b_c_14 : Ref sig .tc := ⟨.hbm, 41, rfl⟩
abbrev main_while0b_v5 : Ref sig .tc := ⟨.hbm, 42, rfl⟩
abbrev main_while0b_c_15 : Ref sig .tc := ⟨.hbm, 43, rfl⟩
abbrev main_while0b_v6 : Ref sig .tc := ⟨.hbm, 44, rfl⟩
abbrev main_while0b_v7 : Ref sig .tc := ⟨.hbm, 45, rfl⟩
abbrev main_while0b_v8 : Ref sig .tc := ⟨.hbm, 46, rfl⟩
abbrev main_while0b_v9 : Ref sig .tc := ⟨.hbm, 47, rfl⟩
abbrev main_while0b_v10 : Ref sig .tc := ⟨.hbm, 48, rfl⟩
abbrev main_while0b_cst : Ref sig .tc := ⟨.hbm, 49, rfl⟩
abbrev main_while0b_v11 : Ref sig .tc := ⟨.hbm, 50, rfl⟩
abbrev main_while0b_c_16 : Ref sig .tc := ⟨.hbm, 51, rfl⟩
abbrev main_while0b_v12 : Ref sig .tc := ⟨.hbm, 52, rfl⟩
abbrev main_while0b_c_17 : Ref sig .tc := ⟨.hbm, 53, rfl⟩
abbrev main_while0b_v13 : Ref sig .tc := ⟨.hbm, 54, rfl⟩
abbrev main_while0b_v14 : Ref sig .tc := ⟨.hbm, 55, rfl⟩
abbrev main_while0b_v15 : Ref sig .tc := ⟨.hbm, 56, rfl⟩
abbrev main_while0b_v16 : Ref sig .tc := ⟨.hbm, 57, rfl⟩
abbrev main_while0b_v17 : Ref sig .tc := ⟨.hbm, 58, rfl⟩
abbrev main_while0b_cst_18 : Ref sig .tc := ⟨.hbm, 59, rfl⟩
abbrev main_while0b_v18 : Ref sig .tc := ⟨.hbm, 60, rfl⟩
abbrev main_while0b_c_19 : Ref sig .tc := ⟨.hbm, 61, rfl⟩
abbrev main_while0b_v19 : Ref sig .tc := ⟨.hbm, 62, rfl⟩
abbrev main_while0b_c_20 : Ref sig .tc := ⟨.hbm, 63, rfl⟩
abbrev main_while0b_v20 : Ref sig .tc := ⟨.hbm, 64, rfl⟩
abbrev main_while0b_v21 : Ref sig .tc := ⟨.hbm, 65, rfl⟩
abbrev main_while0b_c_21 : Ref sig .tc := ⟨.hbm, 66, rfl⟩
abbrev main_while0b_c_22 : Ref sig .tc := ⟨.hbm, 67, rfl⟩
abbrev main_while0b_v22 : Ref sig .tc := ⟨.hbm, 68, rfl⟩
abbrev main_while0b_c_23 : Ref sig .tc := ⟨.hbm, 69, rfl⟩
abbrev main_while0b_c_24 : Ref sig .tc := ⟨.hbm, 70, rfl⟩
abbrev main_while0b_v23 : Ref sig .tc := ⟨.hbm, 71, rfl⟩
abbrev main_while0b_c_25 : Ref sig .tc := ⟨.hbm, 72, rfl⟩
abbrev main_while0b_v24 : Ref sig .tc := ⟨.hbm, 73, rfl⟩
abbrev main_while0b_v25 : Ref sig .tc := ⟨.hbm, 74, rfl⟩
abbrev main_while0b_v26 : Ref sig .tc := ⟨.hbm, 75, rfl⟩
abbrev main_while0b_cst_26 : Ref sig .tc := ⟨.hbm, 76, rfl⟩
abbrev main_while0b_v27 : Ref sig .tc := ⟨.hbm, 77, rfl⟩
abbrev main_while0b_v28 : Ref sig .tc := ⟨.hbm, 78, rfl⟩
abbrev main_while0b_v29 : Ref sig .tc := ⟨.hbm, 79, rfl⟩
abbrev main_while0b_v30 : Ref sig .tc := ⟨.hbm, 80, rfl⟩
abbrev main_while0b_c_27 : Ref sig .tc := ⟨.hbm, 81, rfl⟩
abbrev main_while0b_v31 : Ref sig .tc := ⟨.hbm, 82, rfl⟩
abbrev main_while0b_c_28 : Ref sig .tc := ⟨.hbm, 83, rfl⟩
abbrev main_while0b_v32 : Ref sig .tc := ⟨.hbm, 84, rfl⟩
abbrev main_while0b_v33 : Ref sig .tc := ⟨.hbm, 85, rfl⟩
abbrev main_while0b_c_29 : Ref sig .tc := ⟨.hbm, 86, rfl⟩
abbrev main_while0b_c_30 : Ref sig .tc := ⟨.hbm, 87, rfl⟩
abbrev main_while0b_v34 : Ref sig .tc := ⟨.hbm, 88, rfl⟩
abbrev main_while0b_c_31 : Ref sig .tc := ⟨.hbm, 89, rfl⟩
abbrev main_while0b_c_32 : Ref sig .tc := ⟨.hbm, 90, rfl⟩
abbrev main_while0b_v35 : Ref sig .tc := ⟨.hbm, 91, rfl⟩
abbrev main_while0b_c_33 : Ref sig .tc := ⟨.hbm, 92, rfl⟩
abbrev main_while0b_v36 : Ref sig .tc := ⟨.hbm, 93, rfl⟩
abbrev main_while0b_v37 : Ref sig .tc := ⟨.hbm, 94, rfl⟩
abbrev main_while0b_v38 : Ref sig .tc := ⟨.hbm, 95, rfl⟩
abbrev main_while0b_cst_34 : Ref sig .tc := ⟨.hbm, 96, rfl⟩
abbrev main_while0b_v39 : Ref sig .tc := ⟨.hbm, 97, rfl⟩
abbrev main_while0b_v40 : Ref sig .tc := ⟨.hbm, 98, rfl⟩
abbrev main_while0b_v41 : Ref sig .tc := ⟨.hbm, 99, rfl⟩
abbrev main_while0b_v42 : Ref sig .tc := ⟨.hbm, 100, rfl⟩
abbrev main_while0b_v43 : Ref sig .tc := ⟨.hbm, 101, rfl⟩
abbrev main_while0b_v44 : Ref sig .tc := ⟨.hbm, 102, rfl⟩
abbrev main_while0b_v45 : Ref sig .tc := ⟨.hbm, 103, rfl⟩
abbrev main_while0b_v46 : Ref sig .tc := ⟨.hbm, 104, rfl⟩
abbrev main_while0b_call4_cst : Ref sig .tc := ⟨.hbm, 105, rfl⟩
abbrev main_while0b_call4_v0 : Ref sig .tc := ⟨.hbm, 106, rfl⟩
abbrev main_while0b_v47 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_v54 : Ref sig .tc := ⟨.hbm, 114, rfl⟩
abbrev main_while0b_v55 : Ref sig .tc := ⟨.hbm, 115, rfl⟩
abbrev main_while0b_v56 : Ref sig .tc := ⟨.hbm, 116, rfl⟩
abbrev main_while0b_v57 : Ref sig .tc := ⟨.hbm, 117, rfl⟩
abbrev main_while0b_v58 : Ref sig .tc := ⟨.hbm, 118, rfl⟩
abbrev main_while0b_v59 : Ref sig .tc := ⟨.hbm, 119, rfl⟩
abbrev main_while0b_v60 : Ref sig .tc := ⟨.hbm, 120, rfl⟩
abbrev main_while0b_v61 : Ref sig .tc := ⟨.hbm, 121, rfl⟩
abbrev main_while0b_v62 : Ref sig .tc := ⟨.hbm, 122, rfl⟩
abbrev main_while0b_v63 : Ref sig .tc := ⟨.hbm, 123, rfl⟩
abbrev main_while0b_v64 : Ref sig .tc := ⟨.hbm, 124, rfl⟩
abbrev main_while0b_v65 : Ref sig .tc := ⟨.hbm, 125, rfl⟩
abbrev main_while0b_cst_35 : Ref sig .tc := ⟨.hbm, 126, rfl⟩
abbrev main_while0b_v66 : Ref sig .tc := ⟨.hbm, 127, rfl⟩
abbrev main_while0b_v67 : Ref sig .tc := ⟨.hbm, 128, rfl⟩
abbrev main_while0b_cst_36 : Ref sig .tc := ⟨.hbm, 129, rfl⟩
abbrev main_while0b_v68 : Ref sig .tc := ⟨.hbm, 130, rfl⟩
abbrev main_while0b_v69 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_cst_37 : Ref sig .tc := ⟨.hbm, 135, rfl⟩
abbrev main_while0b_v73 : Ref sig .tc := ⟨.hbm, 136, rfl⟩
abbrev main_while0b_v74 : Ref sig .tc := ⟨.hbm, 137, rfl⟩
abbrev main_while0b_cst_38 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_cst_39 : Ref sig .tc := ⟨.hbm, 144, rfl⟩
abbrev main_while0b_v80 : Ref sig .tc := ⟨.hbm, 145, rfl⟩
abbrev main_while0b_v81 : Ref sig .tc := ⟨.hbm, 146, rfl⟩
abbrev main_while0b_v82 : Ref sig .tc := ⟨.hbm, 147, rfl⟩
abbrev main_while0b_v83 : Ref sig .tc := ⟨.hbm, 148, rfl⟩
abbrev main_while0b_v84 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_v97 : Ref sig .tc := ⟨.hbm, 162, rfl⟩
abbrev main_while0b_v98 : Ref sig .tc := ⟨.hbm, 163, rfl⟩
abbrev main_while0b_v99 : Ref sig .tc := ⟨.hbm, 164, rfl⟩
abbrev main_while0b_cst_40 : Ref sig .tc := ⟨.hbm, 165, rfl⟩
abbrev main_while0b_v100 : Ref sig .tc := ⟨.hbm, 166, rfl⟩
abbrev main_while0b_v101 : Ref sig .tc := ⟨.hbm, 167, rfl⟩
abbrev main_while0b_cst_41 : Ref sig .tc := ⟨.hbm, 168, rfl⟩
abbrev main_while0b_v102 : Ref sig .tc := ⟨.hbm, 169, rfl⟩
abbrev main_while0b_v103 : Ref sig .tc := ⟨.hbm, 170, rfl⟩
abbrev main_while0b_v104 : Ref sig .tc := ⟨.hbm, 171, rfl⟩
abbrev main_while0b_v105 : Ref sig .tc := ⟨.hbm, 172, rfl⟩
abbrev main_while0b_v106 : Ref sig .tc := ⟨.hbm, 173, rfl⟩
abbrev main_while0b_cst_42 : Ref sig .tc := ⟨.hbm, 174, rfl⟩
abbrev main_while0b_v107 : Ref sig .tc := ⟨.hbm, 175, rfl⟩
abbrev main_while0b_v108 : Ref sig .tc := ⟨.hbm, 176, rfl⟩
abbrev main_while0b_cst_43 : Ref sig .tc := ⟨.hbm, 177, rfl⟩
abbrev main_while0b_v109 : Ref sig .tc := ⟨.hbm, 178, rfl⟩
abbrev main_while0b_v110 : Ref sig .tc := ⟨.hbm, 179, rfl⟩
abbrev main_while0b_v111 : Ref sig .tc := ⟨.hbm, 180, rfl⟩
abbrev main_while0b_v112 : Ref sig .tc := ⟨.hbm, 181, rfl⟩
abbrev main_while0b_v113 : Ref sig .tc := ⟨.hbm, 182, rfl⟩
abbrev main_while0b_cst_44 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_v117 : Ref sig .tc := ⟨.hbm, 187, rfl⟩
abbrev main_while0b_v118 : Ref sig .tc := ⟨.hbm, 188, rfl⟩
abbrev main_while0b_c_45 : Ref sig .tc := ⟨.hbm, 189, rfl⟩
abbrev main_while0b_v119 : Ref sig .tc := ⟨.hbm, 190, rfl⟩
abbrev main_while0b_c_46 : Ref sig .tc := ⟨.hbm, 191, rfl⟩
abbrev main_while0b_v120 : Ref sig .tc := ⟨.hbm, 192, rfl⟩
abbrev main_while0b_v121 : Ref sig .tc := ⟨.hbm, 193, rfl⟩
abbrev main_while0b_v122 : Ref sig .tc := ⟨.hbm, 194, rfl⟩
abbrev main_while0b_v123 : Ref sig .tc := ⟨.hbm, 195, rfl⟩
abbrev main_while0b_c_47 : Ref sig .tc := ⟨.hbm, 196, rfl⟩
abbrev main_while0b_v124 : Ref sig .tc := ⟨.hbm, 197, rfl⟩
abbrev main_while0b_c_48 : Ref sig .tc := ⟨.hbm, 198, rfl⟩
abbrev main_while0b_v125 : Ref sig .tc := ⟨.hbm, 199, rfl⟩
abbrev main_while0b_v126 : Ref sig .tc := ⟨.hbm, 200, rfl⟩
abbrev main_while0b_v127 : Ref sig .tc := ⟨.hbm, 201, rfl⟩
abbrev main_while0b_v128 : Ref sig .tc := ⟨.hbm, 202, rfl⟩
abbrev main_while0b_c_49 : Ref sig .tc := ⟨.hbm, 203, rfl⟩
abbrev main_while0b_v129 : Ref sig .tc := ⟨.hbm, 204, rfl⟩
abbrev main_while0b_c_50 : Ref sig .tc := ⟨.hbm, 205, rfl⟩
abbrev main_while0b_v130 : Ref sig .tc := ⟨.hbm, 206, rfl⟩
abbrev main_while0b_v131 : Ref sig .tc := ⟨.hbm, 207, rfl⟩
abbrev main_while0b_v132 : Ref sig .tc := ⟨.hbm, 208, rfl⟩
abbrev main_while0b_v133 : Ref sig .tc := ⟨.hbm, 209, rfl⟩
abbrev main_while0b_c_51 : Ref sig .tc := ⟨.hbm, 210, rfl⟩
abbrev main_while0b_v134 : Ref sig .tc := ⟨.hbm, 211, rfl⟩
abbrev main_while0b_c_52 : Ref sig .tc := ⟨.hbm, 212, rfl⟩
abbrev main_while0b_v135 : Ref sig .tc := ⟨.hbm, 213, rfl⟩
abbrev main_while0b_v136 : Ref sig .tc := ⟨.hbm, 214, rfl⟩
abbrev main_while0b_v137 : Ref sig .tc := ⟨.hbm, 215, rfl⟩
abbrev main_while0b_v138 : Ref sig .tc := ⟨.hbm, 216, rfl⟩
abbrev main_while0b_c_53 : Ref sig .tc := ⟨.hbm, 217, rfl⟩
abbrev main_while0b_v139 : Ref sig .tc := ⟨.hbm, 218, rfl⟩

abbrev nD : Nat := 1
abbrev τ : Topo := Topo.v7x

variable {F : FTy → Type} [FloatOps F]

abbrev main_while0_count : Scf.Loop 32 := ⟨0#32, 200#32, 1#32⟩
-- ==== Proof.Nodes.lean ====
/- What the precondition says of the node words, and what the kernel's index arithmetic makes of such a word: the
   quotient by 8 (the tile) and, through it, the facts the body assumes of the tiles it loads and stores. -/
module

public import proofs.«01_k».proof.Defs
public import proofs.«01_k».proof.Proof.Gen.Kernel.Frame.Runs
public import proofs.«01_k».proof.Proof.Gen.KernelIdeal.Frame.Runs
public import proofs.«01_k».proof.Proof.Gen.Pre_nodes_in_range
public import Idealize.ShloMosaic.Lib.ReduceAll
public import Idealize.ShloMosaic.Lib.WordArith

@[expose] public section

namespace Cert.Nodes

open Idealize.ShloMosaic Idealize.ShloMosaic.TcCoe

/-- The printed test `x >= 0` holding at every word, and `x < 10000` at every word, bounds every word by 10000. -/
theorem lt_of_tests (x : IVec Cert.Pre_nodes_in_range.S200 32) (b : Cert.Pre_nodes_in_range.S_.BroadcastsInDim Cert.Pre_nodes_in_range.S200 (![] : Fin 0 → Fin Cert.Pre_nodes_in_range.S200.rank))
    (h0 : ∀ i, cmpi .sge x (broadcastInDim Cert.Pre_nodes_in_range.S200 ![] b (constantI Cert.Pre_nodes_in_range.S_ 32 0#32)) i = 1#1)
    (h1 : ∀ i, cmpi .slt x (broadcastInDim Cert.Pre_nodes_in_range.S200 ![] b (constantI Cert.Pre_nodes_in_range.S_ 32 10000#32)) i = 1#1)
    (i : Cert.Pre_nodes_in_range.S200.Idx) : (x i).toNat < 10000 := by
  have a := h0 i
  have c := h1 i
  have one : ∀ p : Bool, (BitVec.ofBool p = 1#1) ↔ p = true := by decide
  simp only [cmpi, broadcastInDim, constantI, IntOp.cmpi, one] at a c
  simp only [BitVec.sle, BitVec.slt, decide_eq_true_eq, BitVec.toInt, BitVec.toNat_ofNat] at a c
  omega

/-- A conjunction of two one-bit words that is one makes both one. -/
theorem both_of_andi (x y : IVec Cert.Pre_nodes_in_range.S_ 1) (i : Cert.Pre_nodes_in_range.S_.Idx) (h : andi x y i = 1#1) :
    x i = 1#1 ∧ y i = 1#1 := by
  have h' : IntOp.andi (x i) (y i) = 1#1 := h
  generalize x i = p at h' ⊢
  generalize y i = q at h' ⊢
  revert p q
  decide

/-- A scalar has one index. -/
instance : Subsingleton Cert.Pre_nodes_in_range.S_.Idx := ⟨fun a b => funext fun k => Fin.elim0 k⟩

/-- The printed precondition, decoded: every source word and every target word is below 10000. -/
theorem of_fn {F : FTy → Type} [FloatOps F] (a0 a1 : IVec Cert.Pre_nodes_in_range.S200 32) (a2 : FVec F Cert.Pre_nodes_in_range.S200x16 .f32) (a3 : FVec F Cert.Pre_nodes_in_range.S200 .f32)
    (a4 : FVec F Cert.Pre_nodes_in_range.S10000x128 .f32) (a5 : FVec F Cert.Pre_nodes_in_range.S10000 .f32) (a6 a7 : FVec F Cert.Pre_nodes_in_range.S384x128 .f32) (a8 a9 : FVec F Cert.Pre_nodes_in_range.S384 .f32)
    (a10 : FVec F Cert.Pre_nodes_in_range.S128x272 .f32) (a11 : FVec F Cert.Pre_nodes_in_range.S128 .f32) (a12 : FVec F Cert.Pre_nodes_in_range.S128x128 .f32) (a13 : FVec F Cert.Pre_nodes_in_range.S128 .f32)
    (h : Cert.Pre_nodes_in_range.fn a0 a1 a2 a3 a4 a5 a6 a7 a8 a9 a10 a11 a12 a13 = fun _ => 1#1) :
    (∀ i, (a0 i).toNat < 10000) ∧ (∀ i, (a1 i).toNat < 10000) := by
  have e := congrFun h (fun k => Fin.elim0 k)
  dsimp only [Cert.Pre_nodes_in_range.fn] at e
  obtain ⟨e, d2⟩ := both_of_andi _ _ _ e
  obtain ⟨e, d1⟩ := both_of_andi _ _ _ e
  obtain ⟨s1, s2⟩ := both_of_andi _ _ _ e
  exact ⟨lt_of_tests a0 _ (Host.reduce_andi_all _ _ _ _ _ s1) (Host.reduce_andi_all _ _ _ _ _ s2),
    lt_of_tests a1 _ (Host.reduce_andi_all _ _ _ _ _ d1) (Host.reduce_andi_all _ _ _ _ _ d2)⟩

/-- The offset chain of the words below 10000, decided once: tile `w / 8`, row 0, column 0. -/
theorem off2_ofNat : ∀ n : Fin 10000, Cert.KernelIdeal.k0_off2 (BitVec.ofNat 32 n.val) = ![n.val / 8, 0, 0] := by decide +kernel

/-- The tile chain at a word below 10000. -/
theorem off2_eq (w : BitVec 32) (h : w.toNat < 10000) : Cert.KernelIdeal.k0_off2 w = ![w.toNat / 8, 0, 0] := by
  have e := off2_ofNat ⟨w.toNat, h⟩
  rwa [BitVec.ofNat_toNat, BitVec.setWidth_eq] at e

/-- The same operations print the other tile offsets. -/
theorem off3_eq (w : BitVec 32) (h : w.toNat < 10000) : Cert.KernelIdeal.k0_off3 w = ![w.toNat / 8, 0, 0] := off2_eq w h
/-- Offset 4 of the body at a word in range: the tile of the node. -/
theorem off4_eq (w : BitVec 32) (h : w.toNat < 10000) : Cert.KernelIdeal.k0_off4 w = ![w.toNat / 8, 0, 0] := off2_eq w h
/-- Offset 5 of the body at a word in range: the tile of the node. -/
theorem off5_eq (w : BitVec 32) (h : w.toNat < 10000) : Cert.KernelIdeal.k0_off5 w = ![w.toNat / 8, 0, 0] := off2_eq w h
/-- Offset 7 of the body at a word in range: the tile of the node. -/
theorem off7_eq (w : BitVec 32) (h : w.toNat < 10000) : Cert.KernelIdeal.k0_off7 w = ![w.toNat / 8, 0, 0] := off2_eq w h

/-- A tile of the timestamps' array is inside it. -/
theorem lane_in (n : ℕ) (h : n < 10000) : ∀ a, (![n / 8, 0, 0] : Fin 3 → ℕ) a + Cert.KernelIdeal.S1x8x1.size a ≤ Cert.KernelIdeal.S1250x8x1.size a := by
  intro a
  match a with
  | ⟨0, _⟩ => show n / 8 + 1 ≤ 1250; omega
  | ⟨1, _⟩ => show 0 + 8 ≤ 8; omega
  | ⟨2, _⟩ => show 0 + 1 ≤ 1; omega

/-- A tile of the memory array is inside it. -/
theorem tile_in (n : ℕ) (h : n < 10000) : ∀ a, (![n / 8, 0, 0] : Fin 3 → ℕ) a + Cert.KernelIdeal.S1x8x128.size a ≤ Cert.KernelIdeal.S1250x8x128.size a := by
  intro a
  match a with
  | ⟨0, _⟩ => show n / 8 + 1 ≤ 1250; omega
  | ⟨1, _⟩ => show 0 + 8 ≤ 8; omega
  | ⟨2, _⟩ => show 0 + 128 ≤ 128; omega

/-- What the body assumes of the source word holds of a word below 10000. -/
theorem chk1 (w : BitVec 32) (h : w.toNat < 10000) : Cert.KernelIdeal.k0_chk1 w := by
  refine ⟨?_, ?_, ?_⟩
  · rw [off2_eq w h]; exact lane_in _ h
  · rw [off4_eq w h]; exact tile_in _ h
  · rw [off7_eq w h]; exact lane_in _ h

/-- What the body assumes of the target word holds of a word below 10000. -/
theorem chk2 (w : BitVec 32) (h : w.toNat < 10000) : Cert.KernelIdeal.k0_chk2 w := by
  refine ⟨?_, ?_⟩
  · rw [off3_eq w h]; exact lane_in _ h
  · rw [off5_eq w h]; exact tile_in _ h

/-- Every word of the source block and of the target block is below 10000: the blocks are the argument arrays whole. -/
theorem block_lt_Kernel (m : (ℓ : Loc Cert.Kernel.nD Cert.Kernel.τ Cert.Kernel.sig) → Buf (Elt Bits) ℓ) (h : Cert.Pre_Kernel m)
    (c : Dev Cert.Kernel.nD) (t : Fin Cert.Kernel.cfg0.N) :
    (∀ i, (Cert.Kernel.Gen.iblk m c 0 t i).toNat < 10000) ∧ ∀ i, (Cert.Kernel.Gen.iblk m c 1 t i).toNat < 10000 := by
  have b := of_fn _ _ _ _ _ _ _ _ _ _ _ _ _ _ (h c)
  obtain ⟨b0, b1⟩ := b
  refine ⟨fun i => ?_, fun i => ?_⟩
  · have e : ∀ j, (Cert.Kernel.Gen.V m c Cert.Kernel.main_arg0 j).toNat < 10000 := fun j => by rw [Cert.Kernel.Gen.V_main_arg0 m c]; exact b0 j
    unfold Cert.Kernel.Gen.iblk; rw [View.read_apply, cast_eq]; exact e _
  · have e : ∀ j, (Cert.Kernel.Gen.V m c Cert.Kernel.main_arg1 j).toNat < 10000 := fun j => by rw [Cert.Kernel.Gen.V_main_arg1 m c]; exact b1 j
    unfold Cert.Kernel.Gen.iblk; rw [View.read_apply, cast_eq]; exact e _

/-- In the idealized program too every word of the source block and of the target block is below 10000: the blocks are the argument arrays whole. -/
theorem block_lt_KernelIdeal (m : (ℓ : Loc Cert.KernelIdeal.nD Cert.KernelIdeal.τ Cert.KernelIdeal.sig) → Buf (Elt Ideal) ℓ) (h : Cert.Pre_KernelIdeal m)
    (c : Dev Cert.KernelIdeal.nD) (t : Fin Cert.KernelIdeal.cfg0.N) :
    (∀ i, (Cert.KernelIdeal.Gen.iblk m c 0 t i).toNat < 10000) ∧ ∀ i, (Cert.KernelIdeal.Gen.iblk m c 1 t i).toNat < 10000 := by
  have b := of_fn _ _ _ _ _ _ _ _ _ _ _ _ _ _ (h c)
  obtain ⟨b0, b1⟩ := b
  refine ⟨fun i => ?_, fun i => ?_⟩
  · have e : ∀ j, (Cert.KernelIdeal.Gen.V m c Cert.KernelIdeal.main_arg0 j).toNat < 10000 := fun j => by rw [Cert.KernelIdeal.Gen.V_main_arg0 m c]; exact b0 j
    unfold Cert.KernelIdeal.Gen.iblk; rw [View.read_apply, cast_eq]; exact e _
  · have e : ∀ j, (Cert.KernelIdeal.Gen.V m c Cert.KernelIdeal.main_arg1 j).toNat < 10000 := fun j => by rw [Cert.KernelIdeal.Gen.V_main_arg1 m c]; exact b1 j
    unfold Cert.KernelIdeal.Gen.iblk; rw [View.read_apply, cast_eq]; exact e _

end Cert.Nodes
-- ==== Proof.Hyps.lean ====
/- The facts the kernel's body assumes of the node words it loads hold under the precondition, for the program and for
   the idealized program. -/
module

public import proofs.«01_k».proof.Proof.Nodes

@[expose] public section

namespace Cert.Nodes

open Idealize.ShloMosaic Idealize.ShloMosaic.TcCoe

/-- A word loaded off a whole memref whose contents are words below 10000 is below 10000 (program). -/
theorem word_lt_Kernel (M : Memref Cert.Kernel.sig .tc .smem Cert.Kernel.S200 .i32) (hM : M.IsWhole) (X : Vec Bits Cert.Kernel.S200 .i32)
    (hX : ∀ i, (X i : BitVec 32).toNat < 10000) (r : LoadRect Cert.Kernel.S200) (j : r.shape.Idx) :
    (M.view.readAt (Elt Bits) r (hM.unread X) j : BitVec 32).toNat < 10000 := by
  rw [View.readAt_apply, hM.read_unread]
  exact hX _

/-- The same in the idealized program. -/
theorem word_lt_KernelIdeal (M : Memref Cert.KernelIdeal.sig .tc .smem Cert.KernelIdeal.S200 .i32) (hM : M.IsWhole) (X : Vec Ideal Cert.KernelIdeal.S200 .i32)
    (hX : ∀ i, (X i : BitVec 32).toNat < 10000) (r : LoadRect Cert.KernelIdeal.S200) (j : r.shape.Idx) :
    (M.view.readAt (Elt Ideal) r (hM.unread X) j : BitVec 32).toNat < 10000 := by
  rw [View.readAt_apply, hM.read_unread]
  exact hX _

/-- The precondition gives the facts the kernel's body assumes of the words it loads. -/
theorem hyps_Kernel (m : (ℓ : Loc Cert.Kernel.nD Cert.Kernel.τ Cert.Kernel.sig) → Buf (Elt Bits) ℓ) (h : Cert.Pre_Kernel m) :
    Cert.Kernel.Gen.Hyps m :=
  Cert.Kernel.Gen.Hyps.of
    (fun c t _ _ => chk1 _ (word_lt_Kernel _ (Cert.Kernel.Gen.hs0_0 t) _ (block_lt_Kernel m h c t).1 _ _))
    (fun c t _ _ => chk2 _ (word_lt_Kernel _ (Cert.Kernel.Gen.hs0_1 t) _ (block_lt_Kernel m h c t).2 _ _))

/-- The precondition gives the facts the idealized kernel's body assumes of the words it loads. -/
theorem hyps_KernelIdeal (m : (ℓ : Loc Cert.KernelIdeal.nD Cert.KernelIdeal.τ Cert.KernelIdeal.sig) → Buf (Elt Ideal) ℓ) (h : Cert.Pre_KernelIdeal m) :
    Cert.KernelIdeal.Gen.Hyps m :=
  Cert.KernelIdeal.Gen.Hyps.of
    (fun c t _ _ => chk1 _ (word_lt_KernelIdeal _ (Cert.KernelIdeal.Gen.hs0_0 t) _ (block_lt_KernelIdeal m h c t).1 _ _))
    (fun c t _ _ => chk2 _ (word_lt_KernelIdeal _ (Cert.KernelIdeal.Gen.hs0_1 t) _ (block_lt_KernelIdeal m h c t).2 _ _))

end Cert.Nodes
-- ==== Proof.Lanes.lean ====
/- The kernel's remainder by 8 at a node word: the row of the node in its tile. -/
module

public import Idealize.ShloMosaic.Lib.Pointwise

@[expose] public section

noncomputable section

namespace Cert.Lanes

open Idealize.ShloMosaic

/-- The signed remainder by 8, as the kernel prints it (with the correction of a negative remainder). -/
def lane (w : BitVec 32) : BitVec 32 :=
  Scalar.select
    (Scalar.andi
      (Scalar.xori
        (Scalar.cmpi .slt (Scalar.remsi w (Scalar.select (Scalar.cmpi .eq 8#32 0#32) 1#32 8#32)) 0#32)
        (Scalar.cmpi .slt (Scalar.select (Scalar.cmpi .eq 8#32 0#32) 1#32 8#32) 0#32))
      (Scalar.cmpi .ne (Scalar.remsi w (Scalar.select (Scalar.cmpi .eq 8#32 0#32) 1#32 8#32)) 0#32))
    (Scalar.addi (Scalar.remsi w (Scalar.select (Scalar.cmpi .eq 8#32 0#32) 1#32 8#32)) (Scalar.select (Scalar.cmpi .eq 8#32 0#32) 1#32 8#32))
    (Scalar.remsi w (Scalar.select (Scalar.cmpi .eq 8#32 0#32) 1#32 8#32))

/-- The remainder of the words below 10000, decided once. -/
theorem lane_ofNat : ∀ n : Fin 10000, lane (BitVec.ofNat 32 n.val) = BitVec.ofNat 32 (n.val % 8) := by decide +kernel

/-- The remainder of a word below 10000. -/
theorem lane_eq (w : BitVec 32) (n : ℕ) (h : w.toNat = n) (hn : n < 10000) : lane w = BitVec.ofNat 32 (n % 8) := by
  have e := lane_ofNat ⟨w.toNat, by omega⟩
  rw [BitVec.ofNat_toNat, BitVec.setWidth_eq] at e
  subst h
  exact e

end Cert.Lanes
-- ==== Proof.Trip.lean ====
/- The pieces one trip of the kernel's loop stores, written with the two node words. -/
module

public import proofs.«01_k».proof.Proof.Lanes
public import proofs.«01_k».proof.Proof.Gen.KernelIdeal.Loops

@[expose] public section

set_option maxRecDepth 16384
set_option maxHeartbeats 4000000

noncomputable section

namespace Cert.Trip

open Idealize.ShloMosaic Idealize.ShloMosaic.TcCoe Cert.KernelIdeal Cert.KernelIdeal.Gen Cert.Lanes

section
variable (M16 : Memref sig .tc .vmem S1250x8x128 .f32) (M17 : Memref sig .tc .vmem S1250x8x1 .f32)
  (v21 v23 v25 : FVec Ideal S128x128 .f32) (v26 : Vec Ideal S1x128 .f32) (v28 : Vec Ideal S128x384 .f32) (v30 : Vec Ideal S1x384 .f32)
  (v32 : Vec Ideal S128x384 .f32) (v34 : Vec Ideal S1x384 .f32) (v36 : IVec S8x128 32) (v37 : IVec S8x1 32)
  (s d : BitVec 32) (hs : k0_chk1 s) (hd : k0_chk2 d) (t : Elt Ideal .f32) (w : BitVec 32) (ft : FVec Ideal S1x8x128 .f32)
  (f16 : BufTy.Contents (Elt Ideal) M16.view.ty) (f17 : BufTy.Contents (Elt Ideal) M17.view.ty)

/-- The source's decayed memory, from its two tiles. -/
def prevS : FVec Ideal S1x128 .f32 :=
  k0_pay10 (F := Ideal) v36 (lane s)
    (k0_pay9 (F := Ideal) v37 t (lane s) (M17.view.readAt (Elt Ideal) (Rect.unit (s := S1250x8x1) (k0_off2 s) S1x8x1.size hs.1).toLoadRect f17))
    (M16.view.readAt (Elt Ideal) (Rect.unit (s := S1250x8x128) (k0_off4 s) S1x8x128.size hs.2.1).toLoadRect f16)

/-- The target's decayed memory, from its two tiles. -/
def prevD : FVec Ideal S1x128 .f32 :=
  k0_pay11 (F := Ideal) v36 t (lane d)
    (k0_pay8 (F := Ideal) v37 d (M17.view.readAt (Elt Ideal) (Rect.unit (s := S1250x8x1) (k0_off3 d) S1x8x1.size hd.1).toLoadRect f17))
    (M16.view.readAt (Elt Ideal) (Rect.unit (s := S1250x8x128) (k0_off5 d) S1x8x128.size hd.2).toLoadRect f16)

/-- The store to the source's memory tile. -/
def memS : View.Piece (Elt Ideal) S1250x8x128 .f32 :=
  ⟨Rect.unit (s := S1250x8x128) (k0_off4 s) S1x8x128.size hs.2.1,
    let p := prevS M16 M17 v36 v37 s hs t f16 f17
    let q := prevD M16 M17 v36 v37 d hd t f16 f17
    k0_pay20 (F := Ideal) v36 (lane s) (k0_pay13 p q) (k0_pay14 (k0_pay4 v32) (k0_pay5 v34) p q)
      (k0_pay15 v21 v23 v25 (k0_pay1 v26) (k0_pay2 v28) (k0_pay3 v30) v36 w p q ft)
      (k0_pay16 v21 v23 v25 (k0_pay1 v26) (k0_pay2 v28) (k0_pay3 v30) v36 w p q ft)
      (k0_pay17 v21 v23 v25 (k0_pay1 v26) (k0_pay2 v28) (k0_pay3 v30) v36 w p q ft)
      (k0_pay18 (k0_pay4 v32) (k0_pay5 v34) p q)
      (M16.view.readAt (Elt Ideal) (Rect.unit (s := S1250x8x128) (k0_off4 s) S1x8x128.size hs.2.1).toLoadRect f16)⟩

/-- The store to the target's memory tile, loaded after the source's store. -/
def memD : View.Piece (Elt Ideal) S1250x8x128 .f32 :=
  ⟨Rect.unit (s := S1250x8x128) (k0_off5 d) S1x8x128.size hd.2,
    let p := prevS M16 M17 v36 v37 s hs t f16 f17
    let q := prevD M16 M17 v36 v37 d hd t f16 f17
    k0_pay6 (F := Ideal) (k0_pay22 v36 (lane d))
      (k0_pay23 (k0_pay13 p q) (k0_pay14 (k0_pay4 v32) (k0_pay5 v34) p q)
        (k0_pay15 v21 v23 v25 (k0_pay1 v26) (k0_pay2 v28) (k0_pay3 v30) v36 w p q ft)
        (k0_pay16 v21 v23 v25 (k0_pay1 v26) (k0_pay2 v28) (k0_pay3 v30) v36 w p q ft)
        (k0_pay17 v21 v23 v25 (k0_pay1 v26) (k0_pay2 v28) (k0_pay3 v30) v36 w p q ft)
        (k0_pay18 (k0_pay4 v32) (k0_pay5 v34) p q))
      (M16.view.readAt (Elt Ideal) (Rect.unit (s := S1250x8x128) (k0_off5 d) S1x8x128.size hd.2).toLoadRect
        (M16.view.writes (Elt Ideal) f16 [memS M16 M17 v21 v23 v25 v26 v28 v30 v32 v34 v36 v37 s d hs hd t w ft f16 f17]))⟩

/-- The store to the source's tile of times. -/
def luS : View.Piece (Elt Ideal) S1250x8x1 .f32 :=
  ⟨Rect.unit (s := S1250x8x1) (k0_off7 s) S1x8x1.size hs.2.2,
    k0_pay21 (F := Ideal) v37 t (lane s) (M17.view.readAt (Elt Ideal) (Rect.unit (s := S1250x8x1) (k0_off7 s) S1x8x1.size hs.2.2).toLoadRect f17)⟩

/-- The store to the target's tile of times, loaded after the source's store. -/
def luD : View.Piece (Elt Ideal) S1250x8x1 .f32 :=
  ⟨Rect.unit (s := S1250x8x1) (k0_off3 d) S1x8x1.size hd.1,
    k0_pay7 (F := Ideal) t (lane d) (M17.view.readAt (Elt Ideal) (Rect.unit (s := S1250x8x1) (k0_off3 d) S1x8x1.size hd.1).toLoadRect
      (M17.view.writes (Elt Ideal) f17 [luS M17 v37 s hs t f17]))⟩

end

/-- A trip's two lists of pieces, the memory's and the times', newest first. -/
theorem tripL_eq (𝒱 : Variants) (c : Dev nD) (bd : Option 𝒱.V) (arg0 : Memref sig .tc .smem S200 .i32) (harg0 : arg0.IsWhole) (arg1 : Memref sig .tc .smem S200 .i32) (harg1 : arg1.IsWhole) (arg2 : Memref sig .tc .smem S200 .f32) (harg2 : arg2.IsWhole) (arg3 : Memref sig .tc .vmem S25x8x16 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x384 .f32) (harg10 : arg10.IsWhole) (arg11 : Memref sig .tc .vmem S1x384 .f32) (harg11 : arg11.IsWhole) (arg12 : Memref sig .tc .vmem S128x384 .f32) (harg12 : arg12.IsWhole) (arg13 : Memref sig .tc .vmem S1x384 .f32) (harg13 : arg13.IsWhole) (arg14 : Memref sig .tc .vmem S1250x8x128 .f32) (harg14 : arg14.IsWhole) (arg15 : Memref sig .tc .vmem S1250x8x1 .f32) (harg15 : arg15.IsWhole) (arg16 : Memref sig .tc .vmem S1250x8x128 .f32) (harg16 : arg16.IsWhole) (arg17 : Memref sig .tc .vmem S1250x8x1 .f32) (harg17 : arg17.IsWhole) (arg18 : Memref sig .tc .vmem S25x8x128 .f32) (harg18 : arg18.IsWhole) (v21 : FVec Ideal S128x128 .f32) (v23 : FVec Ideal S128x128 .f32) (v25 : FVec Ideal S128x128 .f32) (v26 : Vec Ideal S1x128 .f32) (v28 : Vec Ideal S128x384 .f32) (v30 : Vec Ideal S1x384 .f32) (v32 : Vec Ideal S128x384 .f32) (v34 : Vec Ideal S1x384 .f32) (v36 : IVec S8x128 32) (v37 : IVec S8x1 32) (X_arg0 : BufTy.Contents (Elt Ideal) arg0.view.ty) (X_arg1 : BufTy.Contents (Elt Ideal) arg1.view.ty) (X_arg2 : BufTy.Contents (Elt Ideal) arg2.view.ty) (X_arg18 : BufTy.Contents (Elt Ideal) arg18.view.ty) (k : Fin k0_t1_loop.trips) (k0_hw1 : k0_chk1 (arg0.view.readAt (Elt Ideal) (Rect.unit (s := S200) (k0_off1 k) S1.size (k0_off1_inb k)).toLoadRect X_arg0 (Shape.Idx.first (numel1_S1.symm ▸ Nat.one_pos)))) (k0_hw2 : k0_chk2 (arg1.view.readAt (Elt Ideal) (Rect.unit (s := S200) (k0_off1 k) S1.size (k0_off1_inb k)).toLoadRect X_arg1 (Shape.Idx.first (numel1_S1.symm ▸ Nat.one_pos)))) (f_arg16 : BufTy.Contents (Elt Ideal) arg16.view.ty) (f_arg17 : BufTy.Contents (Elt Ideal) arg17.view.ty) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v21 v23 v25 v26 v28 v30 v32 v34 v36 v37 X_arg0 X_arg1 X_arg2 X_arg18 k k0_hw1 k0_hw2 f_arg16 f_arg17 =
      (let s := arg0.view.readAt (Elt Ideal) (Rect.unit (s := S200) (k0_off1 k) S1.size (k0_off1_inb k)).toLoadRect X_arg0 (Shape.Idx.first (numel1_S1.symm ▸ Nat.one_pos))
       let d := arg1.view.readAt (Elt Ideal) (Rect.unit (s := S200) (k0_off1 k) S1.size (k0_off1_inb k)).toLoadRect X_arg1 (Shape.Idx.first (numel1_S1.symm ▸ Nat.one_pos))
       let t := arg2.view.readAt (Elt Ideal) (Rect.unit (s := S200) (k0_off1 k) S1.size (k0_off1_inb k)).toLoadRect X_arg2 (Shape.Idx.first (numel1_S1.symm ▸ Nat.one_pos))
       let w := Scf.iv 0#32 1#32 k.val
       let ft := arg18.view.readAt (Elt Ideal) (Rect.unit (s := S25x8x128) (k0_off6 k) S1x8x128.size (k0_off6_inb k)).toLoadRect X_arg18
       ([memD arg16 arg17 v21 v23 v25 v26 v28 v30 v32 v34 v36 v37 s d k0_hw1 k0_hw2 t w ft f_arg16 f_arg17,
          memS arg16 arg17 v21 v23 v25 v26 v28 v30 v32 v34 v36 v37 s d k0_hw1 k0_hw2 t w ft f_arg16 f_arg17],
        [luD arg17 v37 s d k0_hw1 k0_hw2 t f_arg17, luS arg17 v37 s k0_hw1 t f_arg17])) := by
  unfold tripL_k0_t1 trip_k0_t1
  rfl

end Cert.Trip
-- ==== Proof.Spec.lean ====
/- The problem's mathematics over the extended reals, as both programs are proved to compute it: 200 interactions, each
   reading the decayed memory of its two nodes, forming a message from them and from the interaction's features, and
   writing what a gated cell makes of the message and of each node's decayed memory. -/
module

public import Idealize.ShloMosaic.Lib.Pointwise

@[expose] public section

noncomputable section

namespace Cert.Spec

open Idealize.ShloMosaic

/-- The interactions (source, target, time, features) and the weights, entry by entry. -/
structure Inputs where
  src : Fin 200 → ℕ
  dst : Fin 200 → ℕ
  ts : Fin 200 → EReal
  ef : Fin 200 → Fin 16 → EReal
  w1 : Fin 128 → Fin 272 → EReal
  b1 : Fin 128 → EReal
  w2 : Fin 128 → Fin 128 → EReal
  b2 : Fin 128 → EReal
  wih : Fin 384 → Fin 128 → EReal
  bih : Fin 384 → EReal
  whh : Fin 384 → Fin 128 → EReal
  bhh : Fin 384 → EReal

/-- What an interaction may change: each node's memory row and the time of its last update. -/
@[ext] structure State where
  mem : ℕ → Fin 128 → EReal
  lu : ℕ → EReal

/-- Node `n`'s memory decayed from its last update to time `t`. -/
def State.prev (S : State) (t : EReal) (n : ℕ) (c : Fin 128) : EReal :=
  S.mem n c * Ideal.exp (Ideal.ofBits .f32 0xBDCCCCCD#32 * max (t - S.lu n) 0)

namespace Inputs

variable (I : Inputs)

/-- What interaction `k`'s features and the first bias give hidden unit `j`. -/
def feat (k : Fin 200) (j : Fin 128) : EReal :=
  ∑ x : Fin 16, I.ef k x * I.w1 j ⟨256 + x.val, by omega⟩ + I.b1 j

/-- Hidden unit `j` from the decayed memories `p`, `q` of the two nodes and the features' part `e`. -/
def hid (p q e : Fin 128 → EReal) (j : Fin 128) : EReal :=
  max (∑ x : Fin 128, p x * I.w1 j ⟨x.val, by omega⟩ + ∑ x : Fin 128, q x * I.w1 j ⟨128 + x.val, by omega⟩ + e j) 0

/-- Entry `j` of the message. -/
def msg (p q e : Fin 128 → EReal) (j : Fin 128) : EReal :=
  ∑ x : Fin 128, I.hid p q e x * I.w2 j x + I.b2 j

/-- The gates' input part from the message. -/
def gin (p q e : Fin 128 → EReal) (j : Fin 384) : EReal :=
  ∑ x : Fin 128, I.msg p q e x * I.wih j x + I.bih j

/-- The gates' part from a decayed memory. -/
def ghid (p : Fin 128 → EReal) (j : Fin 384) : EReal :=
  ∑ x : Fin 128, p x * I.whh j x + I.bhh j

end Inputs

/-- The gated cell: from the gates' two parts `g`, `h` and the decayed memory `p`, the new memory. -/
def cell (g h : Fin 384 → EReal) (p : Fin 128 → EReal) (c : Fin 128) : EReal :=
  (1 - Ideal.logistic (g ⟨128 + c.val, by omega⟩ + h ⟨128 + c.val, by omega⟩))
      * Ideal.tanh (g ⟨256 + c.val, by omega⟩
          + Ideal.logistic (g ⟨c.val, by omega⟩ + h ⟨c.val, by omega⟩) * h ⟨256 + c.val, by omega⟩)
    + Ideal.logistic (g ⟨128 + c.val, by omega⟩ + h ⟨128 + c.val, by omega⟩) * p c

/-- The new memory of a node whose decayed memory is `r`, where interaction `k` joins nodes of decayed memories `p`, `q`. -/
def Inputs.upd (I : Inputs) (k : Fin 200) (p q r : Fin 128 → EReal) : Fin 128 → EReal :=
  cell (I.gin p q (I.feat k)) (I.ghid r) r

/-- The new memory that interaction `k` gives node `n` at state `S`. -/
def Inputs.new (I : Inputs) (k : Fin 200) (S : State) (n : ℕ) : Fin 128 → EReal :=
  I.upd k (S.prev (I.ts k) (I.src k)) (S.prev (I.ts k) (I.dst k)) (S.prev (I.ts k) n)

/-- One interaction: the source's row and time are written, then the target's. -/
def Inputs.step (I : Inputs) (k : Fin 200) (S : State) : State where
  mem n c := if n = I.dst k then I.new k S (I.dst k) c else if n = I.src k then I.new k S (I.src k) c else S.mem n c
  lu n := if n = I.dst k then I.ts k else if n = I.src k then I.ts k else S.lu n

/-- The state after the first `k` interactions. -/
def Inputs.run (I : Inputs) (S : State) : ℕ → State
  | 0 => S
  | k + 1 => if h : k < 200 then I.step ⟨k, h⟩ (Inputs.run I S k) else Inputs.run I S k

/-- The state after one interaction more. -/
theorem Inputs.run_succ (I : Inputs) (S : State) (k : Fin 200) : I.run S (k.val + 1) = I.step k (I.run S k.val) := by
  rw [Inputs.run, dif_pos k.isLt]

end Cert.Spec
-- ==== Proof.Pay.lean ====
/- The kernel's printed payloads, read at an index: each is the specification's quantity at the tile rows it is given. -/
module

public import proofs.«01_k».proof.Proof.Spec
public import proofs.«01_k».proof.Proof.Lanes
public import proofs.«01_k».proof.Proof.Gen.KernelIdeal.Loops

@[expose] public section

set_option maxRecDepth 16384

noncomputable section

namespace Cert.Pay

open Idealize.ShloMosaic Idealize.ShloMosaic.TcCoe Cert.KernelIdeal Cert.KernelIdeal.Gen Cert.Lanes

/-- The row indices of a memory tile. -/
abbrev rows : IVec S8x128 32 := iota .tc S8x128 32 [0] iota_S8x128_d0_w32
/-- The row indices of a tile of times. -/
abbrev rows1 : IVec S8x1 32 := iota .tc S8x1 32 [0] iota_S8x1_d0_w32

/-- Comparing a row index with a row. -/
theorem eq_row (x : Fin 8) (n : ℕ) (hn : n < 8) : IntOp.cmpi .eq (BitVec.ofNat 32 x.val) (BitVec.ofNat 32 n) = BitVec.ofBool (decide (x.val = n)) := by
  have e : (BitVec.ofNat 32 x.val = BitVec.ofNat 32 n) ↔ x.val = n := by
    rw [← BitVec.toNat_inj, BitVec.toNat_ofNat, BitVec.toNat_ofNat]; omega
  unfold IntOp.cmpi
  by_cases h : x.val = n
  · rw [decide_eq_true h]; simp [h]
  · rw [decide_eq_false h]; show BitVec.ofBool (BitVec.ofNat 32 x.val == BitVec.ofNat 32 n) = _
    rw [beq_eq_false_iff_ne.2 (fun q => h (e.1 q))]

/-- A select on that comparison. -/
theorem select_row {α : Type} (x : Fin 8) (n : ℕ) (hn : n < 8) (a b : α) :
    Scalar.select (IntOp.cmpi .eq (BitVec.ofNat 32 x.val) (BitVec.ofNat 32 n)) a b = if x.val = n then a else b := by
  rw [eq_row x n hn]
  by_cases h : x.val = n
  · rw [decide_eq_true h, if_pos h]; rfl
  · rw [decide_eq_false h, if_neg h]; rfl

/-- The sum of a tile's column masked to one row is that row's entry. -/
theorem pick (n : ℕ) (hn : n < 8) (f : Fin 8 → EReal) :
    ∑ x : Fin 8, Scalar.select (IntOp.cmpi .eq (BitVec.ofNat 32 x.val) (BitVec.ofNat 32 n)) (f x) 0 = f ⟨n, hn⟩ := by
  rw [Finset.sum_eq_single (⟨n, hn⟩ : Fin 8)]
  · rw [select_row _ n hn, if_pos rfl]
  · intro b _ hb
    rw [select_row _ n hn, if_neg fun h => hb (Fin.ext h)]
  · exact fun h => absurd (Finset.mem_univ _) h

/-- The target's time of last update, picked from its tile. -/
theorem pay8_apply (v42 : BitVec 32) (n : ℕ) (h : v42.toNat = n) (hn : n < 10000) (v109 : FVec Ideal S1x8x1 .f32) (a b : Fin 1) :
    k0_pay8 (F := Ideal) rows1 v42 v109 (ix2 a b) = v109 (ix3 0 ⟨n % 8, by omega⟩ 0) := by
  have e := lane_eq v42 n h hn
  unfold lane at e
  pointwise [k0_pay8]
  rw [e, pick (n % 8) (by omega)]

/-- The time since the source's last update, not below zero. -/
theorem pay9_apply (n : ℕ) (t : EReal) (v100 : FVec Ideal S1x8x1 .f32) (a b : Fin 1) :
    k0_pay9 (F := Ideal) rows1 t (BitVec.ofNat 32 (n % 8)) v100 (ix2 a b) = max (t - v100 (ix3 0 ⟨n % 8, by omega⟩ 0)) 0 := by
  pointwise [k0_pay9]
  rw [pick (n % 8) (by omega)]

/-- The source's decayed memory. -/
theorem pay10_apply (n : ℕ) (v120 : FVec Ideal S1x1 .f32) (v132 : FVec Ideal S1x8x128 .f32) (a : Fin 1) (c : Fin 128) :
    k0_pay10 (F := Ideal) rows (BitVec.ofNat 32 (n % 8)) v120 v132 (ix2 a c)
      = v132 (ix3 0 ⟨n % 8, by omega⟩ c) * Ideal.exp (Ideal.ofBits .f32 0xBDCCCCCD#32 * v120 (ix2 0 0)) := by
  pointwise [k0_pay10]
  rw [pick (n % 8) (by omega)]

/-- The target's decayed memory. -/
theorem pay11_apply (n : ℕ) (t : EReal) (v116 : FVec Ideal S1x1 .f32) (v143 : FVec Ideal S1x8x128 .f32) (a : Fin 1) (c : Fin 128) :
    k0_pay11 (F := Ideal) rows t (BitVec.ofNat 32 (n % 8)) v116 v143 (ix2 a c)
      = v143 (ix3 0 ⟨n % 8, by omega⟩ c) * Ideal.exp (Ideal.ofBits .f32 0xBDCCCCCD#32 * max (t - v116 (ix2 0 0)) 0) := by
  pointwise [k0_pay11]
  rw [pick (n % 8) (by omega)]

/-- The weights a trip is given are the specification's. -/
structure Weights (I : Spec.Inputs) (v21 v23 v25 : FVec Ideal S128x128 .f32) (v27 : FVec Ideal S1x128 .f32) (v29 : FVec Ideal S128x384 .f32)
    (v31 : FVec Ideal S1x384 .f32) (v33 : FVec Ideal S128x384 .f32) (v35 : FVec Ideal S1x384 .f32) : Prop where
  w1s (x j : Fin 128) : v21 (ix2 x j) = I.w1 j ⟨x.val, by omega⟩
  w1d (x j : Fin 128) : v23 (ix2 x j) = I.w1 j ⟨128 + x.val, by omega⟩
  w2 (x j : Fin 128) : v25 (ix2 x j) = I.w2 j x
  b2 (a : Fin 1) (j : Fin 128) : v27 (ix2 a j) = I.b2 j
  wih (x : Fin 128) (j : Fin 384) : v29 (ix2 x j) = I.wih j x
  bih (a : Fin 1) (j : Fin 384) : v31 (ix2 a j) = I.bih j
  whh (x : Fin 128) (j : Fin 384) : v33 (ix2 x j) = I.whh j x
  bhh (a : Fin 1) (j : Fin 384) : v35 (ix2 a j) = I.bhh j

section
variable {I : Spec.Inputs} {v21 v23 v25 : FVec Ideal S128x128 .f32} {v27 : FVec Ideal S1x128 .f32} {v29 : FVec Ideal S128x384 .f32}
    {v31 : FVec Ideal S1x384 .f32} {v33 : FVec Ideal S128x384 .f32} {v35 : FVec Ideal S1x384 .f32}
    (W : Weights I v21 v23 v25 v27 v29 v31 v33 v35)
include W

/-- The gates' input part from the message. -/
theorem pay12_apply (w : BitVec 32) (k : ℕ) (hw : w.toNat = k) (hk : k < 10000) (p q : FVec Ideal S1x128 .f32) (v171 : FVec Ideal S1x8x128 .f32)
    (a : Fin 1) (j : Fin 384) :
    k0_pay12 (F := Ideal) v21 v23 v25 v27 v29 v31 rows w p q v171 (ix2 a j)
      = I.gin (fun x => p (ix2 0 x)) (fun x => q (ix2 0 x)) (fun x => v171 (ix3 0 ⟨k % 8, by omega⟩ x)) j := by
  have e := lane_eq w k hw hk
  unfold lane at e
  pointwise [k0_pay12]
  simp only [e, pick (k % 8) (by omega), W.w1s, W.w1d, W.w2, W.b2, W.wih, W.bih]
  rw [Subsingleton.elim a 0]
  rfl

/-- The gates' part from the source's decayed memory. -/
theorem pay14_apply_zero (p q : FVec Ideal S1x128 .f32) (j : Fin 384) :
    k0_pay14 (F := Ideal) v33 v35 p q (ix2 0 j) = I.ghid (fun x => p (ix2 0 x)) j := by
  pointwise [k0_pay14, k0_pay13]
  simp only [W.whh, W.bhh]
  rfl

/-- The gates' part from the target's decayed memory. -/
theorem pay14_apply_one (p q : FVec Ideal S1x128 .f32) (j : Fin 384) :
    k0_pay14 (F := Ideal) v33 v35 p q (ix2 1 j) = I.ghid (fun x => q (ix2 0 x)) j := by
  pointwise [k0_pay14, k0_pay13]
  simp only [W.whh, W.bhh]
  rfl

/-- The source's new memory. -/
theorem pay19_apply_zero (w : BitVec 32) (k : ℕ) (hw : w.toNat = k) (hk : k < 10000) (p q : FVec Ideal S1x128 .f32) (v171 : FVec Ideal S1x8x128 .f32) (c : Fin 128) :
    k0_pay19 (F := Ideal) (k0_pay13 p q) (k0_pay14 v33 v35 p q) (k0_pay15 v21 v23 v25 v27 v29 v31 rows w p q v171)
        (k0_pay16 v21 v23 v25 v27 v29 v31 rows w p q v171) (k0_pay17 v21 v23 v25 v27 v29 v31 rows w p q v171) (k0_pay18 v33 v35 p q) (ix2 0 c)
      = Spec.cell (I.gin (fun x => p (ix2 0 x)) (fun x => q (ix2 0 x)) (fun x => v171 (ix3 0 ⟨k % 8, by omega⟩ x)))
          (I.ghid fun x => p (ix2 0 x)) (fun x => p (ix2 0 x)) c := by
  pointwise [k0_pay19, k0_pay18, k0_pay17, k0_pay16, k0_pay15, k0_pay13]
  simp only [pay12_apply W w k hw hk, pay14_apply_zero W]
  rfl

/-- The target's new memory. -/
theorem pay19_apply_one (w : BitVec 32) (k : ℕ) (hw : w.toNat = k) (hk : k < 10000) (p q : FVec Ideal S1x128 .f32) (v171 : FVec Ideal S1x8x128 .f32) (c : Fin 128) :
    k0_pay19 (F := Ideal) (k0_pay13 p q) (k0_pay14 v33 v35 p q) (k0_pay15 v21 v23 v25 v27 v29 v31 rows w p q v171)
        (k0_pay16 v21 v23 v25 v27 v29 v31 rows w p q v171) (k0_pay17 v21 v23 v25 v27 v29 v31 rows w p q v171) (k0_pay18 v33 v35 p q) (ix2 1 c)
      = Spec.cell (I.gin (fun x => p (ix2 0 x)) (fun x => q (ix2 0 x)) (fun x => v171 (ix3 0 ⟨k % 8, by omega⟩ x)))
          (I.ghid fun x => q (ix2 0 x)) (fun x => q (ix2 0 x)) c := by
  pointwise [k0_pay19, k0_pay18, k0_pay17, k0_pay16, k0_pay15, k0_pay13]
  simp only [pay12_apply W w k hw hk, pay14_apply_one W]
  rfl

end

/-- The source's memory tile with its row replaced. -/
theorem pay20_apply (n : ℕ) (v199 : FVec Ideal S2x128 .f32) (v202 : FVec Ideal S2x384 .f32) (v203 v204 v205 : FVec Ideal S1x128 .f32)
    (v206 : FVec Ideal S2x128 .f32) (v230 : FVec Ideal S1x8x128 .f32) (a : Fin 1) (r : Fin 8) (c : Fin 128) :
    k0_pay20 (F := Ideal) rows (BitVec.ofNat 32 (n % 8)) v199 v202 v203 v204 v205 v206 v230 (ix3 a r c)
      = if r.val = n % 8 then k0_pay19 v199 v202 v203 v204 v205 v206 (ix2 0 c) else v230 (ix3 0 r c) := by
  pointwise [k0_pay20]
  rw [select_row _ _ (by omega)]

/-- The target's memory tile with its row replaced. -/
theorem pay6_apply (n : ℕ) (v199 : FVec Ideal S2x128 .f32) (v202 : FVec Ideal S2x384 .f32) (v203 v204 v205 : FVec Ideal S1x128 .f32)
    (v206 : FVec Ideal S2x128 .f32) (v254 : FVec Ideal S1x8x128 .f32) (a : Fin 1) (r : Fin 8) (c : Fin 128) :
    k0_pay6 (F := Ideal) (k0_pay22 rows (BitVec.ofNat 32 (n % 8))) (k0_pay23 v199 v202 v203 v204 v205 v206) v254 (ix3 a r c)
      = if r.val = n % 8 then k0_pay19 v199 v202 v203 v204 v205 v206 (ix2 1 c) else v254 (ix3 0 r c) := by
  pointwise [k0_pay6, k0_pay22, k0_pay23]
  rw [select_row _ _ (by omega)]

/-- The source's tile of times with its row replaced. -/
theorem pay21_apply (n : ℕ) (t : EReal) (v240 : FVec Ideal S1x8x1 .f32) (a : Fin 1) (r : Fin 8) (b : Fin 1) :
    k0_pay21 (F := Ideal) rows1 t (BitVec.ofNat 32 (n % 8)) v240 (ix3 a r b) = if r.val = n % 8 then t else v240 (ix3 0 r 0) := by
  pointwise [k0_pay21]
  rw [select_row _ _ (by omega)]

/-- The target's tile of times with its row replaced. -/
theorem pay7_apply (n : ℕ) (t : EReal) (v264 : FVec Ideal S1x8x1 .f32) (a : Fin 1) (r : Fin 8) (b : Fin 1) :
    k0_pay7 (F := Ideal) t (BitVec.ofNat 32 (n % 8)) v264 (ix3 a r b) = if r.val = n % 8 then t else v264 (ix3 0 r 0) := by
  pointwise [k0_pay7]
  rw [select_row _ _ (by omega)]

/-- The features' part, all interactions at once. -/
theorem pay26_apply (v3 : FVec Ideal S25x8x16 .f32) (v6 : FVec Ideal S16x128 .f32) (v7 : FVec Ideal S1x128 .f32) (g : Fin 25) (r : Fin 8) (c : Fin 128) :
    k0_pay26 (F := Ideal) v3 v6 v7 (ix3 g r c) = ∑ x : Fin 16, v3 (ix3 g r x) * v6 (ix2 x c) + v7 (ix2 0 c) := by
  pointwise [k0_pay26]

end Cert.Pay
-- ==== Proof.Step.lean ====
/- What one trip of the kernel's loop leaves in the two arrays of tiles: the specification's step. -/
module

public import proofs.«01_k».proof.Proof.Trip
public import proofs.«01_k».proof.Proof.Pay
public import proofs.«01_k».proof.Proof.Nodes
public import Idealize.ShloMosaic.Lib.WritesUnit

@[expose] public section

set_option maxRecDepth 16384

noncomputable section

namespace Cert.Step

open Idealize.ShloMosaic Idealize.ShloMosaic.TcCoe Cert.KernelIdeal Cert.KernelIdeal.Gen Cert.Lanes Cert.Trip Cert.Pay

section
variable {C : ℕ} (v : View sig .tc .vmem (⟨3, ![1250, 8, C]⟩ : Shape) .f32) (f : v.ty.Contents (Elt Ideal))

/-- A loaded tile's entry is the array's entry at the tile's number. -/
theorem tile_read (off : Fin 3 → ℕ) (g : ℕ) (hg : g < 1250) (h : off = ![g, 0, 0]) (inb : ∀ a : Fin 3, off a + (![1, 8, C] : Fin 3 → ℕ) a ≤ (![1250, 8, C] : Fin 3 → ℕ) a)
    (a : Fin 1) (r : Fin 8) (c : Fin C) :
    v.readAt (Elt Ideal) (Rect.unit (s := ⟨3, ![1250, 8, C]⟩) off ![1, 8, C] inb).toLoadRect f (ix3 a r c : (⟨3, ![1, 8, C]⟩ : Shape).Idx)
      = v.read (Elt Ideal) f (ix3 ⟨g, hg⟩ r c) := by
  subst h
  rw [View.readAt_apply]
  congr 1
  funext i
  apply Fin.ext
  match i with
  | ⟨0, _⟩ => show g + 1 * a.val = g; omega
  | ⟨1, _⟩ => show 0 + 1 * r.val = r.val; omega
  | ⟨2, _⟩ => show 0 + 1 * c.val = c.val; omega

/-- After a store to a tile the array holds the stored entries there and what it held elsewhere. -/
theorem tile_write (off : Fin 3 → ℕ) (g : ℕ) (h : off = ![g, 0, 0]) (inb : ∀ a : Fin 3, off a + (![1, 8, C] : Fin 3 → ℕ) a ≤ (![1250, 8, C] : Fin 3 → ℕ) a)
    (p : (⟨3, ![1, 8, C]⟩ : Shape).Idx → Elt Ideal .f32) (L : List (View.Piece (Elt Ideal) (⟨3, ![1250, 8, C]⟩ : Shape) .f32))
    (g' : Fin 1250) (r : Fin 8) (c : Fin C) :
    v.read (Elt Ideal) (v.writes (Elt Ideal) f (⟨Rect.unit (s := ⟨3, ![1250, 8, C]⟩) off ![1, 8, C] inb, p⟩ :: L)) (ix3 g' r c)
      = if g'.val = g then p (ix3 0 r c) else v.read (Elt Ideal) (v.writes (Elt Ideal) f L) (ix3 g' r c) := by
  by_cases e : g'.val = g
  · rw [if_pos e]
    exact View.read_writes_cons_unit_of_mem v f inb p L _ (ix3 0 r c) h fun a =>
      match a with
      | ⟨0, _⟩ => by show g'.val = g + 0; omega
      | ⟨1, _⟩ => by show r.val = 0 + r.val; omega
      | ⟨2, _⟩ => by show c.val = 0 + c.val; omega
  · rw [if_neg e]
    exact View.read_writes_cons_unit_of_not_mem v f inb p L _ h 0 (by show g'.val < g ∨ g + 1 ≤ g'.val; omega)

end

section
variable (M16 : Memref sig .tc .vmem S1250x8x128 .f32) (M17 : Memref sig .tc .vmem S1250x8x1 .f32)

/-- The two arrays of tiles hold a state: node `8 g + r` is row `r` of tile `g`. -/
structure Holds (S : Spec.State) (f16 : BufTy.Contents (Elt Ideal) M16.view.ty) (f17 : BufTy.Contents (Elt Ideal) M17.view.ty) : Prop where
  mem (g : Fin 1250) (r : Fin 8) (c : Fin 128) : M16.view.read (Elt Ideal) f16 (ix3 g r c) = S.mem (8 * g.val + r.val) c
  lu (g : Fin 1250) (r : Fin 8) (c : Fin 1) : M17.view.read (Elt Ideal) f17 (ix3 g r c) = S.lu (8 * g.val + r.val)

variable {M16 M17} {I : Spec.Inputs} {S : Spec.State} {v21 v23 v25 : FVec Ideal S128x128 .f32} {v26 : Vec Ideal S1x128 .f32} {v28 : Vec Ideal S128x384 .f32}
  {v30 : Vec Ideal S1x384 .f32} {v32 : Vec Ideal S128x384 .f32} {v34 : Vec Ideal S1x384 .f32}
  {s d : BitVec 32} {hs : k0_chk1 s} {hd : k0_chk2 d} {t : Elt Ideal .f32} {w : BitVec 32} {ft : FVec Ideal S1x8x128 .f32}
  {f16 : BufTy.Contents (Elt Ideal) M16.view.ty} {f17 : BufTy.Contents (Elt Ideal) M17.view.ty}

/-- The source's decayed memory is the specification's. -/
theorem prevS_apply (H : Holds M16 M17 S f16 f17) (n : ℕ) (hn : n < 10000) (e : s.toNat = n) (a : Fin 1) (c : Fin 128) :
    prevS M16 M17 rows rows1 s hs t f16 f17 (ix2 a c) = S.prev t n c := by
  have l := lane_eq s n e hn
  unfold prevS
  rw [l, pay10_apply, pay9_apply]
  erw [tile_read M16.view f16 (k0_off4 s) (n / 8) (by omega) (by rw [Nodes.off4_eq s (by omega), e]),
    tile_read M17.view f17 (k0_off2 s) (n / 8) (by omega) (by rw [Nodes.off2_eq s (by omega), e])]
  rw [H.mem, H.lu]
  simp only [Nat.div_add_mod]
  rfl

/-- The target's decayed memory is the specification's. -/
theorem prevD_apply (H : Holds M16 M17 S f16 f17) (n : ℕ) (hn : n < 10000) (e : d.toNat = n) (a : Fin 1) (c : Fin 128) :
    prevD M16 M17 rows rows1 d hd t f16 f17 (ix2 a c) = S.prev t n c := by
  have l := lane_eq d n e hn
  unfold prevD
  rw [l, pay11_apply, pay8_apply d n e hn]
  erw [tile_read M16.view f16 (k0_off5 d) (n / 8) (by omega) (by rw [Nodes.off5_eq d (by omega), e]),
    tile_read M17.view f17 (k0_off3 d) (n / 8) (by omega) (by rw [Nodes.off3_eq d (by omega), e])]
  rw [H.mem, H.lu]
  simp only [Nat.div_add_mod]
  rfl

/-- After a trip's stores the two arrays hold the specification's next state. -/
theorem holds_step (W : Weights I v21 v23 v25 (k0_pay1 v26) (k0_pay2 v28) (k0_pay3 v30) (k0_pay4 v32) (k0_pay5 v34))
    (H : Holds M16 M17 S f16 f17) (k : Fin 200) (hsn : I.src k < 10000) (hdn : I.dst k < 10000) (es : s.toNat = I.src k) (ed : d.toNat = I.dst k)
    (et : t = I.ts k) (ew : w.toNat = k.val) (eft : ∀ x, ft (ix3 0 ⟨k.val % 8, by omega⟩ x) = I.feat k x) :
    Holds M16 M17 (I.step k S)
      (M16.view.writes (Elt Ideal) f16 [memD M16 M17 v21 v23 v25 v26 v28 v30 v32 v34 rows rows1 s d hs hd t w ft f16 f17,
        memS M16 M17 v21 v23 v25 v26 v28 v30 v32 v34 rows rows1 s d hs hd t w ft f16 f17])
      (M17.view.writes (Elt Ideal) f17 [luD M17 rows1 s d hs hd t f17, luS M17 rows1 s hs t f17]) := by
  have ls := lane_eq s _ es hsn
  have ld := lane_eq d _ ed hdn
  have o2 : k0_off2 s = ![I.src k / 8, 0, 0] := by rw [Nodes.off2_eq s (by omega), es]
  have o7 : k0_off7 s = ![I.src k / 8, 0, 0] := o2
  have o4 : k0_off4 s = ![I.src k / 8, 0, 0] := o2
  have o3 : k0_off3 d = ![I.dst k / 8, 0, 0] := by rw [Nodes.off3_eq d (by omega), ed]
  have o5 : k0_off5 d = ![I.dst k / 8, 0, 0] := o3
  have pS : (fun x => prevS M16 M17 rows rows1 s hs t f16 f17 (ix2 0 x)) = S.prev t (I.src k) := funext fun x => prevS_apply H _ hsn es 0 x
  have pD : (fun x => prevD M16 M17 rows rows1 d hd t f16 f17 (ix2 0 x)) = S.prev t (I.dst k) := funext fun x => prevD_apply H _ hdn ed 0 x
  have eft' : (fun x => ft (ix3 0 ⟨k.val % 8, by omega⟩ x)) = I.feat k := funext eft
  have mS (g : Fin 1250) (r : Fin 8) (c : Fin 128) :
      M16.view.read (Elt Ideal) (M16.view.writes (Elt Ideal) f16 [memS M16 M17 v21 v23 v25 v26 v28 v30 v32 v34 rows rows1 s d hs hd t w ft f16 f17]) (ix3 g r c)
        = if 8 * g.val + r.val = I.src k then I.new k S (I.src k) c else S.mem (8 * g.val + r.val) c := by
    unfold memS
    dsimp only
    refine (tile_write M16.view f16 _ _ o4 hs.2.1 _ _ g r c).trans ?_
    rw [ls, pay20_apply, pay19_apply_zero W w k.val ew (by omega), pS, pD, eft', et]
    by_cases e : 8 * g.val + r.val = I.src k
    · rw [if_pos (by omega), if_pos (by omega), if_pos e]; rfl
    · rw [if_neg e]
      by_cases e1 : g.val = I.src k / 8
      · rw [if_pos e1, if_neg (by omega)]
        refine (tile_read M16.view f16 _ (I.src k / 8) (by omega) o4 hs.2.1 0 r c).trans ?_
        rw [H.mem]
        show S.mem (8 * (I.src k / 8) + r.val) c = _
        rw [e1]
      · rw [if_neg e1]
        exact H.mem g r c
  have lS (g : Fin 1250) (r : Fin 8) (c : Fin 1) :
      M17.view.read (Elt Ideal) (M17.view.writes (Elt Ideal) f17 [luS M17 rows1 s hs t f17]) (ix3 g r c)
        = if 8 * g.val + r.val = I.src k then I.ts k else S.lu (8 * g.val + r.val) := by
    unfold luS
    refine (tile_write M17.view f17 _ _ o7 hs.2.2 _ _ g r c).trans ?_
    rw [ls, pay21_apply, et]
    by_cases e : 8 * g.val + r.val = I.src k
    · rw [if_pos (by omega), if_pos (by omega), if_pos e]
    · rw [if_neg e]
      by_cases e1 : g.val = I.src k / 8
      · rw [if_pos e1, if_neg (by omega)]
        refine (tile_read M17.view f17 _ (I.src k / 8) (by omega) o7 hs.2.2 0 r 0).trans ?_
        rw [H.lu]
        show S.lu (8 * (I.src k / 8) + r.val) = _
        rw [e1]
      · rw [if_neg e1]
        exact H.lu g r c
  constructor
  · intro g r c
    unfold memD
    dsimp only
    refine (tile_write M16.view f16 _ _ o5 hd.2 _ _ g r c).trans ?_
    rw [ld, pay6_apply, pay19_apply_one W w k.val ew (by omega), pS, pD, eft', et]
    show _ = if 8 * g.val + r.val = I.dst k then I.new k S (I.dst k) c else if 8 * g.val + r.val = I.src k then I.new k S (I.src k) c else S.mem (8 * g.val + r.val) c
    by_cases e : 8 * g.val + r.val = I.dst k
    · rw [if_pos (by omega), if_pos (by omega), if_pos e]; rfl
    · rw [if_neg e]
      by_cases e1 : g.val = I.dst k / 8
      · rw [if_pos e1, if_neg (by omega), ← et]
        refine (tile_read M16.view _ _ (I.dst k / 8) (by omega) o5 hd.2 0 r c).trans ?_
        rw [mS]
        show (if 8 * (I.dst k / 8) + r.val = I.src k then _ else S.mem (8 * (I.dst k / 8) + r.val) c) = _
        rw [e1]
      · rw [if_neg e1, ← et]
        exact mS g r c
  · intro g r c
    unfold luD
    refine (tile_write M17.view f17 _ _ o3 hd.1 _ _ g r c).trans ?_
    rw [ld, pay7_apply, et]
    show _ = if 8 * g.val + r.val = I.dst k then I.ts k else if 8 * g.val + r.val = I.src k then I.ts k else S.lu (8 * g.val + r.val)
    by_cases e : 8 * g.val + r.val = I.dst k
    · rw [if_pos (by omega), if_pos (by omega), if_pos e]
    · rw [if_neg e]
      by_cases e1 : g.val = I.dst k / 8
      · rw [if_pos e1, if_neg (by omega), ← et]
        refine (tile_read M17.view _ _ (I.dst k / 8) (by omega) o3 hd.1 0 r 0).trans ?_
        rw [lS]
        show (if 8 * (I.dst k / 8) + r.val = I.src k then _ else S.lu (8 * (I.dst k / 8) + r.val)) = _
        rw [e1, et]
      · rw [if_neg e1, ← et, lS, et]

end

end Cert.Step
-- ==== Proof.Loop.lean ====
/- The kernel's loop: after its first `k` trips the two arrays of tiles hold the specification's state after `k` interactions. -/
module

public import proofs.«01_k».proof.Proof.Step

@[expose] public section

set_option maxRecDepth 16384
set_option maxHeartbeats 4000000

noncomputable section

namespace Cert.Loop

open Idealize.ShloMosaic Idealize.ShloMosaic.TcCoe Cert.KernelIdeal Cert.KernelIdeal.Gen Cert.Lanes Cert.Trip Cert.Pay Cert.Step

/-- The position of trip `k`'s interaction in the scalar arrays. -/
theorem off1_eq : ∀ k : Fin k0_t1_loop.trips, k0_off1 k = ![k.val] := by decide +kernel
/-- The position of trip `k`'s tile of features' parts. -/
theorem off6_eq : ∀ k : Fin k0_t1_loop.trips, k0_off6 k = ![k.val / 8, 0, 0] := by decide +kernel
/-- Trip `k`'s counter. -/
theorem iv_eq : ∀ k : Fin k0_t1_loop.trips, (Scf.iv 0#32 1#32 k.val).toNat = k.val := by decide +kernel

/-- A scalar loaded at a position is the array's entry there. -/
theorem scalar_read {sp : Space} {e : EltTy} (v : View sig .tc sp S200 e) (f : v.ty.Contents (Elt Ideal)) (off : Fin 1 → ℕ) (n : Fin 200) (h : off = ![n.val])
    (inb : ∀ a, off a + S1.size a ≤ S200.size a) (j : S1.Idx) :
    v.readAt (Elt Ideal) (Rect.unit (s := S200) off S1.size inb).toLoadRect f j = v.read (Elt Ideal) f (ix1 n) := by
  subst h
  rw [View.readAt_apply]
  congr 1
  funext i
  apply Fin.ext
  match i with
  | ⟨0, _⟩ =>
    have : (j 0).val < 1 := (j 0).isLt
    show n.val + 1 * (j 0).val = n.val; omega

/-- A loaded tile of features' parts is the array's tile. -/
theorem feat_read (v : View sig .tc .vmem S25x8x128 .f32) (f : v.ty.Contents (Elt Ideal)) (off : Fin 3 → ℕ) (g : Fin 25) (h : off = ![g.val, 0, 0])
    (inb : ∀ a, off a + S1x8x128.size a ≤ S25x8x128.size a) (a : Fin 1) (r : Fin 8) (c : Fin 128) :
    v.readAt (Elt Ideal) (Rect.unit (s := S25x8x128) off S1x8x128.size inb).toLoadRect f (ix3 a r c) = v.read (Elt Ideal) f (ix3 g r c) := by
  subst h
  rw [View.readAt_apply]
  congr 1
  funext i
  apply Fin.ext
  match i with
  | ⟨0, _⟩ => show g.val + 1 * a.val = g.val; omega
  | ⟨1, _⟩ => show 0 + 1 * r.val = r.val; omega
  | ⟨2, _⟩ => show 0 + 1 * c.val = c.val; omega

/-- The invariant of the loop. -/
theorem holds_loop (𝒱 : Variants) (c : Dev nD) (bd : Option 𝒱.V) (arg0 : Memref sig .tc .smem S200 .i32) (harg0 : arg0.IsWhole) (arg1 : Memref sig .tc .smem S200 .i32) (harg1 : arg1.IsWhole) (arg2 : Memref sig .tc .smem S200 .f32) (harg2 : arg2.IsWhole) (arg3 : Memref sig .tc .vmem S25x8x16 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x384 .f32) (harg10 : arg10.IsWhole) (arg11 : Memref sig .tc .vmem S1x384 .f32) (harg11 : arg11.IsWhole) (arg12 : Memref sig .tc .vmem S128x384 .f32) (harg12 : arg12.IsWhole) (arg13 : Memref sig .tc .vmem S1x384 .f32) (harg13 : arg13.IsWhole) (arg14 : Memref sig .tc .vmem S1250x8x128 .f32) (harg14 : arg14.IsWhole) (arg15 : Memref sig .tc .vmem S1250x8x1 .f32) (harg15 : arg15.IsWhole) (arg16 : Memref sig .tc .vmem S1250x8x128 .f32) (harg16 : arg16.IsWhole) (arg17 : Memref sig .tc .vmem S1250x8x1 .f32) (harg17 : arg17.IsWhole) (arg18 : Memref sig .tc .vmem S25x8x128 .f32) (harg18 : arg18.IsWhole) (v21 : FVec Ideal S128x128 .f32) (v23 : FVec Ideal S128x128 .f32) (v25 : FVec Ideal S128x128 .f32) (v26 : Vec Ideal S1x128 .f32) (v28 : Vec Ideal S128x384 .f32) (v30 : Vec Ideal S1x384 .f32) (v32 : Vec Ideal S128x384 .f32) (v34 : Vec Ideal S1x384 .f32) (X_arg0 : BufTy.Contents (Elt Ideal) arg0.view.ty) (X_arg1 : BufTy.Contents (Elt Ideal) arg1.view.ty) (X_arg2 : BufTy.Contents (Elt Ideal) arg2.view.ty) (X_arg18 : BufTy.Contents (Elt Ideal) arg18.view.ty) (G_arg16 : BufTy.Contents (Elt Ideal) arg16.view.ty) (G_arg17 : BufTy.Contents (Elt Ideal) arg17.view.ty) (k0_hw1L : ∀ (kq : ℕ) (hkq : kq < k0_t1_loop.trips), k0_chk1 (arg0.view.readAt (Elt Ideal) (Rect.unit (s := S200) (k0_off1 ⟨kq, hkq⟩) S1.size (k0_off1_inb ⟨kq, hkq⟩)).toLoadRect X_arg0 (Shape.Idx.first (numel1_S1.symm ▸ Nat.one_pos)))) (k0_hw2L : ∀ (kq : ℕ) (hkq : kq < k0_t1_loop.trips), k0_chk2 (arg1.view.readAt (Elt Ideal) (Rect.unit (s := S200) (k0_off1 ⟨kq, hkq⟩) S1.size (k0_off1_inb ⟨kq, hkq⟩)).toLoadRect X_arg1 (Shape.Idx.first (numel1_S1.symm ▸ Nat.one_pos))))
    (I : Spec.Inputs) (S : Spec.State) (W : Weights I v21 v23 v25 (k0_pay1 v26) (k0_pay2 v28) (k0_pay3 v30) (k0_pay4 v32) (k0_pay5 v34))
    (hsn : ∀ k, I.src k < 10000) (hdn : ∀ k, I.dst k < 10000)
    (es : ∀ k : Fin 200, (arg0.view.read (Elt Ideal) X_arg0 (ix1 k)).toNat = I.src k)
    (ed : ∀ k : Fin 200, (arg1.view.read (Elt Ideal) X_arg1 (ix1 k)).toNat = I.dst k)
    (et : ∀ k : Fin 200, arg2.view.read (Elt Ideal) X_arg2 (ix1 k) = I.ts k)
    (ef : ∀ (k : Fin 200) (c : Fin 128), arg18.view.read (Elt Ideal) X_arg18 (ix3 ⟨k.val / 8, by omega⟩ ⟨k.val % 8, by omega⟩ c) = I.feat k c)
    (H : Holds arg16 arg17 S G_arg16 G_arg17) (k : ℕ) (hk : k ≤ 200) :
    Holds arg16 arg17 (I.run S k)
      (arg16.view.writes (Elt Ideal) G_arg16 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v21 v23 v25 v26 v28 v30 v32 v34 rows rows1 X_arg0 X_arg1 X_arg2 X_arg18 G_arg16 G_arg17 k0_hw1L k0_hw2L k).1)
      (arg17.view.writes (Elt Ideal) G_arg17 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v21 v23 v25 v26 v28 v30 v32 v34 rows rows1 X_arg0 X_arg1 X_arg2 X_arg18 G_arg16 G_arg17 k0_hw1L k0_hw2L k).2) := by
  induction k with
  | zero => exact H
  | succ k ih =>
    have hk' : k < k0_t1_loop.trips := hk
    have e := pb_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v21 v23 v25 v26 v28 v30 v32 v34 rows rows1 X_arg0 X_arg1 X_arg2 X_arg18 G_arg16 G_arg17 k0_hw1L k0_hw2L ⟨k, hk'⟩
    rw [tripL_eq] at e
    dsimp only at e
    rw [e]
    dsimp only
    rw [View.writes_append, View.writes_append, Spec.Inputs.run_succ I S ⟨k, hk⟩]
    refine holds_step W (ih (by omega)) ⟨k, hk⟩ (hsn _) (hdn _) ?_ ?_ ?_ (iv_eq ⟨k, hk'⟩) ?_
    · rw [scalar_read arg0.view X_arg0 _ ⟨k, hk⟩ (off1_eq ⟨k, hk'⟩)]; exact es _
    · rw [scalar_read arg1.view X_arg1 _ ⟨k, hk⟩ (off1_eq ⟨k, hk'⟩)]; exact ed _
    · rw [scalar_read arg2.view X_arg2 _ ⟨k, hk⟩ (off1_eq ⟨k, hk'⟩)]; exact et _
    · intro x
      rw [feat_read arg18.view X_arg18 _ ⟨k / 8, by omega⟩ (off6_eq ⟨k, hk'⟩)]
      exact ef ⟨k, hk⟩ x

end Cert.Loop
-- ==== Proof.Body.lean ====
/- What the kernel's body leaves in its two output blocks: the specification's state after all interactions. -/
module

public import proofs.«01_k».proof.Proof.Loop
public import proofs.«01_k».proof.Proof.Gen.KernelIdeal.Frame
public import Idealize.ShloMosaic.Lib.VecWindow

@[expose] public section

set_option maxRecDepth 16384
set_option maxHeartbeats 4000000

noncomputable section

namespace Cert.Body

open Idealize.ShloMosaic Idealize.ShloMosaic.TcCoe Cert.KernelIdeal Cert.KernelIdeal.Gen Cert.Pay Cert.Step

/-- The body's sixteen input blocks hold the interactions, the weights and the state. -/
structure Fits (I : Spec.Inputs) (S : Spec.State) (x0 x1 : Vec Ideal S200 .i32) (x2 : Vec Ideal S200 .f32) (x3 : Vec Ideal S25x8x16 .f32) (x4 x5 : Vec Ideal S128x128 .f32)
    (x6 : Vec Ideal S16x128 .f32) (x7 : Vec Ideal S1x128 .f32) (x8 : Vec Ideal S128x128 .f32) (x9 : Vec Ideal S1x128 .f32) (x10 : Vec Ideal S128x384 .f32)
    (x11 : Vec Ideal S1x384 .f32) (x12 : Vec Ideal S128x384 .f32) (x13 : Vec Ideal S1x384 .f32) (x14 : Vec Ideal S1250x8x128 .f32) (x15 : Vec Ideal S1250x8x1 .f32) : Prop where
  src (k : Fin 200) : (x0 (ix1 k)).toNat = I.src k
  dst (k : Fin 200) : (x1 (ix1 k)).toNat = I.dst k
  src_lt (k : Fin 200) : I.src k < 10000
  dst_lt (k : Fin 200) : I.dst k < 10000
  ts (k : Fin 200) : x2 (ix1 k) = I.ts k
  ef (k : Fin 200) (x : Fin 16) : x3 (ix3 ⟨k.val / 8, by omega⟩ ⟨k.val % 8, by omega⟩ x) = I.ef k x
  w1s (x j : Fin 128) : x4 (ix2 x j) = I.w1 j ⟨x.val, by omega⟩
  w1d (x j : Fin 128) : x5 (ix2 x j) = I.w1 j ⟨128 + x.val, by omega⟩
  w1e (x : Fin 16) (j : Fin 128) : x6 (ix2 x j) = I.w1 j ⟨256 + x.val, by omega⟩
  b1 (a : Fin 1) (j : Fin 128) : x7 (ix2 a j) = I.b1 j
  w2 (x j : Fin 128) : x8 (ix2 x j) = I.w2 j x
  b2 (a : Fin 1) (j : Fin 128) : x9 (ix2 a j) = I.b2 j
  wih (x : Fin 128) (j : Fin 384) : x10 (ix2 x j) = I.wih j x
  bih (a : Fin 1) (j : Fin 384) : x11 (ix2 a j) = I.bih j
  whh (x : Fin 128) (j : Fin 384) : x12 (ix2 x j) = I.whh j x
  bhh (a : Fin 1) (j : Fin 384) : x13 (ix2 a j) = I.bhh j
  mem (g : Fin 1250) (r : Fin 8) (c : Fin 128) : x14 (ix3 g r c) = S.mem (8 * g.val + r.val) c
  lu (g : Fin 1250) (r : Fin 8) (c : Fin 1) : x15 (ix3 g r c) = S.lu (8 * g.val + r.val)

/-- A load of a whole block reads the block. -/
theorem load_whole {sp : Space} {s : Shape} {e : EltTy} {M : Memref sig .tc sp s e} (h : M.IsWhole) (x : Vec Ideal s e) {off : Fin s.rank → ℕ} (inb : ∀ a, off a + s.size a ≤ s.size a) :
    M.view.readAt (Elt Ideal) (Rect.unit off s.size inb).toLoadRect (h.unread x) = x := by
  rw [View.readAt_full, h.read_unread]

/-- The two output blocks after the body. -/
theorem out_holds (c : Dev nD) (arg0 : Memref sig .tc .smem S200 .i32) (harg0 : arg0.IsWhole) (arg1 : Memref sig .tc .smem S200 .i32) (harg1 : arg1.IsWhole) (arg2 : Memref sig .tc .smem S200 .f32) (harg2 : arg2.IsWhole) (arg3 : Memref sig .tc .vmem S25x8x16 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x384 .f32) (harg10 : arg10.IsWhole) (arg11 : Memref sig .tc .vmem S1x384 .f32) (harg11 : arg11.IsWhole) (arg12 : Memref sig .tc .vmem S128x384 .f32) (harg12 : arg12.IsWhole) (arg13 : Memref sig .tc .vmem S1x384 .f32) (harg13 : arg13.IsWhole) (arg14 : Memref sig .tc .vmem S1250x8x128 .f32) (harg14 : arg14.IsWhole) (arg15 : Memref sig .tc .vmem S1250x8x1 .f32) (harg15 : arg15.IsWhole) (arg16 : Memref sig .tc .vmem S1250x8x128 .f32) (harg16 : arg16.IsWhole) (arg17 : Memref sig .tc .vmem S1250x8x1 .f32) (harg17 : arg17.IsWhole) (arg18 : Memref sig .tc .vmem S25x8x128 .f32) (harg18 : arg18.IsWhole)
    (x0 : Vec Ideal S200 .i32) (x1 : Vec Ideal S200 .i32) (x2 : Vec Ideal S200 .f32) (x3 : Vec Ideal S25x8x16 .f32) (x4 : Vec Ideal S128x128 .f32) (x5 : Vec Ideal S128x128 .f32) (x6 : Vec Ideal S16x128 .f32) (x7 : Vec Ideal S1x128 .f32) (x8 : Vec Ideal S128x128 .f32) (x9 : Vec Ideal S1x128 .f32) (x10 : Vec Ideal S128x384 .f32) (x11 : Vec Ideal S1x384 .f32) (x12 : Vec Ideal S128x384 .f32) (x13 : Vec Ideal S1x384 .f32) (x14 : Vec Ideal S1250x8x128 .f32) (x15 : Vec Ideal S1250x8x1 .f32) (k0_hw1L : (∀ (kq : ℕ) (hkq : kq < k0_t1_loop.trips), k0_chk1 (arg0.view.readAt (Elt Ideal) (Rect.unit (s := S200) (k0_off1 ⟨kq, hkq⟩) S1.size (k0_off1_inb ⟨kq, hkq⟩)).toLoadRect (harg0.unread x0) (Shape.Idx.first (numel1_S1.symm ▸ Nat.one_pos))))) (k0_hw2L : (∀ (kq : ℕ) (hkq : kq < k0_t1_loop.trips), k0_chk2 (arg1.view.readAt (Elt Ideal) (Rect.unit (s := S200) (k0_off1 ⟨kq, hkq⟩) S1.size (k0_off1_inb ⟨kq, hkq⟩)).toLoadRect (harg1.unread x1) (Shape.Idx.first (numel1_S1.symm ▸ Nat.one_pos)))))
    (I : Spec.Inputs) (S : Spec.State) (X : Fits I S x0 x1 x2 x3 x4 x5 x6 x7 x8 x9 x10 x11 x12 x13 x14 x15) :
    (∀ (g : Fin 1250) (r : Fin 8) (q : Fin 128), out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L (ix3 g r q) = (I.run S 200).mem (8 * g.val + r.val) q)
      ∧ ∀ (g : Fin 1250) (r : Fin 8) (q : Fin 1), out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L (ix3 g r q) = (I.run S 200).lu (8 * g.val + r.val) := by
  have H : Holds arg16 arg17 (I.run S 200)
      (arg16.view.writes (Elt Ideal) arg16.view.junk (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L).1)
      (arg17.view.writes (Elt Ideal) arg17.view.junk (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L).2.1) := by
    unfold kernelRun0_A
    dsimp only
    rw [View.writes_append, View.writes_append]
    rw [show Scf.trips (0#32) (Scalar.addi 0#32 200#32) 1#32 = 200 from by decide]
    refine Loop.holds_loop Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ _ _ _ _ _ _ _ _ _ _ k0_hw1L k0_hw2L I S ?_ X.src_lt X.dst_lt ?_ ?_ ?_ ?_ ?_ 200 (le_refl 200)
    · unfold kernelRun0_A.sl.r kernelRun0_A.sl.r_1 kernelRun0_A.sl.r_2
      constructor
      · intro x j; pointwise [k0_pay27]; erw [load_whole harg4 x4]; exact X.w1s x j
      · intro x j; pointwise [k0_pay28]; erw [load_whole harg5 x5]; exact X.w1d x j
      · intro x j; pointwise [k0_pay29]; erw [load_whole harg8 x8]; exact X.w2 x j
      · intro a j; pointwise [k0_pay1]; erw [load_whole harg9 x9]; exact X.b2 _ j
      · intro x j; pointwise [k0_pay2]; erw [load_whole harg10 x10]; exact X.wih x j
      · intro a j; pointwise [k0_pay3]; erw [load_whole harg11 x11]; exact X.bih _ j
      · intro x j; pointwise [k0_pay4]; erw [load_whole harg12 x12]; exact X.whh x j
      · intro a j; pointwise [k0_pay5]; erw [load_whole harg13 x13]; exact X.bhh _ j
    · intro k; rw [harg0.read_unread]; exact X.src k
    · intro k; rw [harg1.read_unread]; exact X.dst k
    · intro k; rw [harg2.read_unread]; exact X.ts k
    · intro k q
      unfold kernelRun0_A.sl.HS0_1
      rw [View.read_writes_full, pay26_apply]
      erw [load_whole harg3 x3, load_whole harg6 x6, load_whole harg7 x7]
      simp only [X.ef, X.w1e, X.b1]
      rfl
    · unfold kernelRun0_A.sl.H16_1 kernelRun0_A.sl.H17_1
      constructor
      · intro g r q
        rw [View.read_writes_full]
        pointwise [k0_pay24]
        erw [load_whole harg14 x14]
        exact X.mem g r q
      · intro g r q
        rw [View.read_writes_full]
        pointwise [k0_pay25]
        erw [load_whole harg15 x15]
        exact X.lu g r _
  constructor
  · intro g r q
    unfold out0_A_16
    rw [View.read_writes_eq_canon _ _ _ (cover0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L), ← View.read_writes_eq_canon arg16.view arg16.view.junk _ (cover0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L)]
    exact H.mem g r q
  · intro g r q
    unfold out0_A_17
    rw [View.read_writes_eq_canon _ _ _ (cover0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L), ← View.read_writes_eq_canon arg17.view arg17.view.junk _ (cover0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 k0_hw1L k0_hw2L)]
    exact H.lu g r q

end Cert.Body
-- ==== Proof.Data.lean ====
/- The specification's interactions, weights and state read off the fourteen argument arrays. -/
module

public import proofs.«01_k».proof.Proof.Spec
public import Idealize.ShloMosaic.Lib.Pointwise

@[expose] public section

noncomputable section

namespace Cert.Data

open Idealize.ShloMosaic

/-- An array of `n` entries. -/
abbrev Arr1 (α : Type) (n : ℕ) : Type := (⟨1, ![n]⟩ : Shape).Idx → α

/-- An array of `n` rows of `k` entries. -/
abbrev Arr2 (α : Type) (n k : ℕ) : Type := (⟨2, ![n, k]⟩ : Shape).Idx → α

/-- The interactions and the weights: source words, target words, features, times, then the cell's two matrices and two biases,
    then the message function's two layers. -/
def inputs (src dst : Arr1 (BitVec 32) 200) (ef : Arr2 EReal 200 16) (ts : Arr1 EReal 200) (wih whh : Arr2 EReal 384 128) (bih bhh : Arr1 EReal 384)
    (w1 : Arr2 EReal 128 272) (b1 : Arr1 EReal 128) (w2 : Arr2 EReal 128 128) (b2 : Arr1 EReal 128) : Spec.Inputs where
  src k := (src (ix1 k)).toNat
  dst k := (dst (ix1 k)).toNat
  ts k := ts (ix1 k)
  ef k x := ef (ix2 k x)
  w1 j x := w1 (ix2 j x)
  b1 j := b1 (ix1 j)
  w2 j x := w2 (ix2 j x)
  b2 j := b2 (ix1 j)
  wih j x := wih (ix2 j x)
  bih j := bih (ix1 j)
  whh j x := whh (ix2 j x)
  bhh j := bhh (ix1 j)

/-- The state: the memory rows and the times of last update. -/
def state (mem : Arr2 EReal 10000 128) (lu : Arr1 EReal 10000) : Spec.State where
  mem n c := if h : n < 10000 then mem (ix2 ⟨n, h⟩ c) else 0
  lu n := if h : n < 10000 then lu (ix1 ⟨n, h⟩) else 0

/-- The state's memory at a node, its number given in any form. -/
theorem state_mem (mem : Arr2 EReal 10000 128) (lu : Arr1 EReal 10000) (n : ℕ) (h : n < 10000) (c : Fin 128) : (state mem lu).mem n c = mem (ix2 ⟨n, h⟩ c) :=
  dif_pos h

/-- The state's time at a node. -/
theorem state_lu (mem : Arr2 EReal 10000 128) (lu : Arr1 EReal 10000) (n : ℕ) (h : n < 10000) : (state mem lu).lu n = lu (ix1 ⟨n, h⟩) :=
  dif_pos h

end Cert.Data
-- ==== Proof.Blocks.lean ====
/- The kernel's sixteen input blocks in terms of the launch memory: what the host operations make of the arguments, and each block its whole array. -/
module

public import proofs.«01_k».proof.Proof.Body
public import proofs.«01_k».proof.Proof.Data
public import proofs.«01_k».proof.Proof.Nodes
public import proofs.«01_k».proof.Proof.Hyps
public import Idealize.ShloMosaic.Lib.Pipeline.ValueKit.Geometry
public import Idealize.ShloMosaic.Lib.StableHlo.RunRead

@[expose] public section

set_option maxRecDepth 16384
set_option maxHeartbeats 4000000

noncomputable section

namespace Cert.Blocks

open Idealize.ShloMosaic Idealize.ShloMosaic.TcCoe Cert.KernelIdeal Cert.KernelIdeal.Gen Cert.Body

variable (m : (ℓ : Loc nD τ sig) → Buf (Elt Ideal) ℓ) (c : Dev nD)

/-- The interactions and weights of the launch memory. -/
def I : Spec.Inputs :=
  Data.inputs (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg6)) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) (m ((c.tc : Thread nD τ).loc main_arg13))

/-- The state of the launch memory. -/
def S : Spec.State := Data.state (m ((c.tc : Thread nD τ).loc main_arg4)) (m ((c.tc : Thread nD τ).loc main_arg5))

/-! What the host operations before the region leave in the kernel's operands. -/

/-- The operand holding the edge features in groups of eight. -/
theorem V_v0 : V m c main_v0 = shapeCast S25x8x16 (m ((c.tc : Thread nD τ).loc main_arg2)) shapeCasts_S200x16_S25x8x16 := by
  unfold V V0; after_reads_simp <;> rfl
/-- The operand holding the first layer's source columns, transposed. -/
theorem V_v2 : V m c main_v2 = transpose S128x128 [1, 0] (extractStridedSlice S128x128 ![0, 0] (m ((c.tc : Thread nD τ).loc main_arg10)) slices_S128x272_S128x128_0_0) transposes_S128x128_S128x128_1_0 := by
  unfold V V0; after_reads_simp <;> rfl
/-- The operand holding the first layer's target columns, transposed. -/
theorem V_v4 : V m c main_v4 = transpose S128x128 [1, 0] (extractStridedSlice S128x128 ![0, 128] (m ((c.tc : Thread nD τ).loc main_arg10)) slices_S128x272_S128x128_0_128) transposes_S128x128_S128x128_1_0 := by
  unfold V V0; after_reads_simp <;> rfl
/-- The operand holding the first layer's feature columns, transposed. -/
theorem V_v6 : V m c main_v6 = transpose S16x128 [1, 0] (extractStridedSlice S128x16 ![0, 256] (m ((c.tc : Thread nD τ).loc main_arg10)) slices_S128x272_S128x16_0_256) transposes_S128x16_S16x128_1_0 := by
  unfold V V0; after_reads_simp <;> rfl
/-- The operand holding the first layer's bias as a row. -/
theorem V_v7 : V m c main_v7 = shapeCast S1x128 (m ((c.tc : Thread nD τ).loc main_arg11)) shapeCasts_S128_S1x128 := by
  unfold V V0; after_reads_simp <;> rfl
/-- The operand holding the second layer's matrix, transposed. -/
theorem V_v8 : V m c main_v8 = transpose S128x128 [1, 0] (m ((c.tc : Thread nD τ).loc main_arg12)) transposes_S128x128_S128x128_1_0 := by
  unfold V V0; after_reads_simp <;> rfl
/-- The operand holding the second layer's bias as a row. -/
theorem V_v9 : V m c main_v9 = shapeCast S1x128 (m ((c.tc : Thread nD τ).loc main_arg13)) shapeCasts_S128_S1x128 := by
  unfold V V0; after_reads_simp <;> rfl
/-- The operand holding the cell's input matrix, transposed. -/
theorem V_v10 : V m c main_v10 = transpose S128x384 [1, 0] (m ((c.tc : Thread nD τ).loc main_arg6)) transposes_S384x128_S128x384_1_0 := by
  unfold V V0; after_reads_simp <;> rfl
/-- The operand holding the cell's input bias as a row. -/
theorem V_v11 : V m c main_v11 = shapeCast S1x384 (m ((c.tc : Thread nD τ).loc main_arg8)) shapeCasts_S384_S1x384 := by
  unfold V V0; after_reads_simp <;> rfl
/-- The operand holding the cell's state matrix, transposed. -/
theorem V_v12 : V m c main_v12 = transpose S128x384 [1, 0] (m ((c.tc : Thread nD τ).loc main_arg7)) transposes_S384x128_S128x384_1_0 := by
  unfold V V0; after_reads_simp <;> rfl
/-- The operand holding the cell's state bias as a row. -/
theorem V_v13 : V m c main_v13 = shapeCast S1x384 (m ((c.tc : Thread nD τ).loc main_arg9)) shapeCasts_S384_S1x384 := by
  unfold V V0; after_reads_simp <;> rfl
/-- The operand holding the memory in groups of eight rows. -/
theorem V_v14 : V m c main_v14 = shapeCast S1250x8x128 (m ((c.tc : Thread nD τ).loc main_arg4)) shapeCasts_S10000x128_S1250x8x128 := by
  unfold V V0; after_reads_simp <;> rfl
/-- The operand holding the times of last update in groups of eight. -/
theorem V_v15 : V m c main_v15 = shapeCast S1250x8x1 (m ((c.tc : Thread nD τ).loc main_arg5)) shapeCasts_S10000_S1250x8x1 := by
  unfold V V0; after_reads_simp <;> rfl

/-! Each input block is its whole array. -/

/-- Window 0's block is its whole operand. -/
theorem blk0 (t : Fin cfg0.N) : iblk m c 0 t = V m c main_arg0 := by
  have e : ∀ t : Fin cfg0.N, win0_0.index t = ![0] := (by decide +kernel : ∀ t : Fin grid0.N, _)
  funext i
  blk_simp [iblk]
  exact congrArg (V m c main_arg0) (by blk_ext [e])
/-- Window 1's block is its whole operand. -/
theorem blk1 (t : Fin cfg0.N) : iblk m c 1 t = V m c main_arg1 := by
  have e : ∀ t : Fin cfg0.N, win0_1.index t = ![0] := (by decide +kernel : ∀ t : Fin grid0.N, _)
  funext i
  blk_simp [iblk]
  exact congrArg (V m c main_arg1) (by blk_ext [e])
/-- Window 2's block is its whole operand. -/
theorem blk2 (t : Fin cfg0.N) : iblk m c 2 t = V m c main_arg3 := by
  have e : ∀ t : Fin cfg0.N, win0_2.index t = ![0] := (by decide +kernel : ∀ t : Fin grid0.N, _)
  funext i
  blk_simp [iblk]
  exact congrArg (V m c main_arg3) (by blk_ext [e])
/-- Window 3's block is its whole operand. -/
theorem blk3 (t : Fin cfg0.N) : iblk m c 3 t = V m c main_v0 := by
  have e : ∀ t : Fin cfg0.N, win0_3.index t = ![0, 0, 0] := (by decide +kernel : ∀ t : Fin grid0.N, _)
  funext i
  blk_simp [iblk]
  exact congrArg (V m c main_v0) (by blk_ext [e])
/-- Window 4's block is its whole operand. -/
theorem blk4 (t : Fin cfg0.N) : iblk m c 4 t = V m c main_v2 := by
  have e : ∀ t : Fin cfg0.N, win0_4.index t = ![0, 0] := (by decide +kernel : ∀ t : Fin grid0.N, _)
  funext i
  blk_simp [iblk]
  exact congrArg (V m c main_v2) (by blk_ext [e])
/-- Window 5's block is its whole operand. -/
theorem blk5 (t : Fin cfg0.N) : iblk m c 5 t = V m c main_v4 := by
  have e : ∀ t : Fin cfg0.N, win0_5.index t = ![0, 0] := (by decide +kernel : ∀ t : Fin grid0.N, _)
  funext i
  blk_simp [iblk]
  exact congrArg (V m c main_v4) (by blk_ext [e])
/-- Window 6's block is its whole operand. -/
theorem blk6 (t : Fin cfg0.N) : iblk m c 6 t = V m c main_v6 := by
  have e : ∀ t : Fin cfg0.N, win0_6.index t = ![0, 0] := (by decide +kernel : ∀ t : Fin grid0.N, _)
  funext i
  blk_simp [iblk]
  exact congrArg (V m c main_v6) (by blk_ext [e])
/-- Window 7's block is its whole operand. -/
theorem blk7 (t : Fin cfg0.N) : iblk m c 7 t = V m c main_v7 := by
  have e : ∀ t : Fin cfg0.N, win0_7.index t = ![0, 0] := (by decide +kernel : ∀ t : Fin grid0.N, _)
  funext i
  blk_simp [iblk]
  exact congrArg (V m c main_v7) (by blk_ext [e])
/-- Window 8's block is its whole operand. -/
theorem blk8 (t : Fin cfg0.N) : iblk m c 8 t = V m c main_v8 := by
  have e : ∀ t : Fin cfg0.N, win0_8.index t = ![0, 0] := (by decide +kernel : ∀ t : Fin grid0.N, _)
  funext i
  blk_simp [iblk]
  exact congrArg (V m c main_v8) (by blk_ext [e])
/-- Window 9's block is its whole operand. -/
theorem blk9 (t : Fin cfg0.N) : iblk m c 9 t = V m c main_v9 := by
  have e : ∀ t : Fin cfg0.N, win0_9.index t = ![0, 0] := (by decide +kernel : ∀ t : Fin grid0.N, _)
  funext i
  blk_simp [iblk]
  exact congrArg (V m c main_v9) (by blk_ext [e])
/-- Window 10's block is its whole operand. -/
theorem blk10 (t : Fin cfg0.N) : iblk m c 10 t = V m c main_v10 := by
  have e : ∀ t : Fin cfg0.N, win0_10.index t = ![0, 0] := (by decide +kernel : ∀ t : Fin grid0.N, _)
  funext i
  blk_simp [iblk]
  exact congrArg (V m c main_v10) (by blk_ext [e])
/-- Window 11's block is its whole operand. -/
theorem blk11 (t : Fin cfg0.N) : iblk m c 11 t = V m c main_v11 := by
  have e : ∀ t : Fin cfg0.N, win0_11.index t = ![0, 0] := (by decide +kernel : ∀ t : Fin grid0.N, _)
  funext i
  blk_simp [iblk]
  exact congrArg (V m c main_v11) (by blk_ext [e])
/-- Window 12's block is its whole operand. -/
theorem blk12 (t : Fin cfg0.N) : iblk m c 12 t = V m c main_v12 := by
  have e : ∀ t : Fin cfg0.N, win0_12.index t = ![0, 0] := (by decide +kernel : ∀ t : Fin grid0.N, _)
  funext i
  blk_simp [iblk]
  exact congrArg (V m c main_v12) (by blk_ext [e])
/-- Window 13's block is its whole operand. -/
theorem blk13 (t : Fin cfg0.N) : iblk m c 13 t = V m c main_v13 := by
  have e : ∀ t : Fin cfg0.N, win0_13.index t = ![0, 0] := (by decide +kernel : ∀ t : Fin grid0.N, _)
  funext i
  blk_simp [iblk]
  exact congrArg (V m c main_v13) (by blk_ext [e])
/-- Window 14's block is its whole operand. -/
theorem blk14 (t : Fin cfg0.N) : iblk m c 14 t = V m c main_v14 := by
  have e : ∀ t : Fin cfg0.N, win0_14.index t = ![0, 0, 0] := (by decide +kernel : ∀ t : Fin grid0.N, _)
  funext i
  blk_simp [iblk]
  exact congrArg (V m c main_v14) (by blk_ext [e])
/-- Window 15's block is its whole operand. -/
theorem blk15 (t : Fin cfg0.N) : iblk m c 15 t = V m c main_v15 := by
  have e : ∀ t : Fin cfg0.N, win0_15.index t = ![0, 0, 0] := (by decide +kernel : ∀ t : Fin grid0.N, _)
  funext i
  blk_simp [iblk]
  exact congrArg (V m c main_v15) (by blk_ext [e])

end Cert.Blocks
-- ==== Proof.Operands.lean ====
/- The kernel's operands as the host operations make them from the arguments hold the interactions, the weights and the state. -/
module

public import proofs.«01_k».proof.Proof.Body
public import proofs.«01_k».proof.Proof.Data

@[expose] public section

set_option maxRecDepth 16384
set_option maxHeartbeats 400000

noncomputable section

namespace Cert.Operands

open Idealize.ShloMosaic Cert.KernelIdeal Cert.KernelIdeal.Gen Cert.Data

/-- The features, in tiles of 8 interactions. -/
theorem ef_apply (a : Arr2 EReal 200 16) (k : Fin 200) (x : Fin 16) :
    shapeCast S25x8x16 a shapeCasts_S200x16_S25x8x16 (ix3 ⟨k.val / 8, by omega⟩ ⟨k.val % 8, by omega⟩ x) = a (ix2 k x) := by
  refine shapeCast_apply _ _ _ _ ?_
  rw [Shape.rowMajor_val_two, Shape.rowMajor_val_three]
  show k.val * 16 + x.val = (k.val / 8 * 8 + k.val % 8) * 16 + x.val
  omega

/-- The transposed first columns of the first layer. -/
theorem w1s_apply (a : Arr2 EReal 128 272) (x j : Fin 128) :
    transpose S128x128 [1, 0] (extractStridedSlice S128x128 ![0, 0] a slices_S128x272_S128x128_0_0) transposes_S128x128_S128x128_1_0 (ix2 x j) = a (ix2 j ⟨x.val, by omega⟩) := by
  pointwise

/-- The transposed middle columns of the first layer. -/
theorem w1d_apply (a : Arr2 EReal 128 272) (x j : Fin 128) :
    transpose S128x128 [1, 0] (extractStridedSlice S128x128 ![0, 128] a slices_S128x272_S128x128_0_128) transposes_S128x128_S128x128_1_0 (ix2 x j) = a (ix2 j ⟨128 + x.val, by omega⟩) := by
  pointwise

/-- The transposed last columns of the first layer. -/
theorem w1e_apply (a : Arr2 EReal 128 272) (x : Fin 16) (j : Fin 128) :
    transpose S16x128 [1, 0] (extractStridedSlice S128x16 ![0, 256] a slices_S128x272_S128x16_0_256) transposes_S128x16_S16x128_1_0 (ix2 x j) = a (ix2 j ⟨256 + x.val, by omega⟩) := by
  pointwise

/-- A bias as a row. -/
theorem row128_apply (b : Arr1 EReal 128) (a : Fin 1) (j : Fin 128) : shapeCast S1x128 b shapeCasts_S128_S1x128 (ix2 a j) = b (ix1 j) := by
  pointwise

/-- A gate bias as a row. -/
theorem row384_apply (b : Arr1 EReal 384) (a : Fin 1) (j : Fin 384) : shapeCast S1x384 b shapeCasts_S384_S1x384 (ix2 a j) = b (ix1 j) := by
  pointwise

/-- A transposed square matrix. -/
theorem t128_apply (a : Arr2 EReal 128 128) (x j : Fin 128) : transpose S128x128 [1, 0] a transposes_S128x128_S128x128_1_0 (ix2 x j) = a (ix2 j x) := by
  pointwise

/-- A transposed gate matrix. -/
theorem t384_apply (a : Arr2 EReal 384 128) (x : Fin 128) (j : Fin 384) : transpose S128x384 [1, 0] a transposes_S384x128_S128x384_1_0 (ix2 x j) = a (ix2 j x) := by
  pointwise

/-- The memory rows, in tiles of 8 nodes. -/
theorem mem_apply (a : Arr2 EReal 10000 128) (g : Fin 1250) (r : Fin 8) (q : Fin 128) :
    shapeCast S1250x8x128 a shapeCasts_S10000x128_S1250x8x128 (ix3 g r q) = a (ix2 ⟨8 * g.val + r.val, by omega⟩ q) := by
  refine shapeCast_apply _ _ _ _ ?_
  rw [Shape.rowMajor_val_two, Shape.rowMajor_val_three]
  show (8 * g.val + r.val) * 128 + q.val = (g.val * 8 + r.val) * 128 + q.val
  omega

/-- The times of last update, in tiles of 8 nodes. -/
theorem lu_apply (a : Arr1 EReal 10000) (g : Fin 1250) (r : Fin 8) (q : Fin 1) :
    shapeCast S1250x8x1 a shapeCasts_S10000_S1250x8x1 (ix3 g r q) = a (ix1 ⟨8 * g.val + r.val, by omega⟩) := by
  refine shapeCast_apply _ _ _ _ ?_
  rw [Shape.rowMajor_val_one, Shape.rowMajor_val_three]
  show 8 * g.val + r.val = (g.val * 8 + r.val) * 1 + q.val
  omega

/-- The operands made from the argument arrays hold what the specification reads off those arrays. -/
theorem fits (a0 a1 : Arr1 (BitVec 32) 200) (a2 : Arr2 EReal 200 16) (a3 : Arr1 EReal 200) (a4 : Arr2 EReal 10000 128) (a5 : Arr1 EReal 10000) (a6 a7 : Arr2 EReal 384 128)
    (a8 a9 : Arr1 EReal 384) (a10 : Arr2 EReal 128 272) (a11 : Arr1 EReal 128) (a12 : Arr2 EReal 128 128) (a13 : Arr1 EReal 128)
    (hs : ∀ i, (a0 i).toNat < 10000) (hd : ∀ i, (a1 i).toNat < 10000) :
    Body.Fits (inputs a0 a1 a2 a3 a6 a7 a8 a9 a10 a11 a12 a13) (state a4 a5) a0 a1 a3 (shapeCast S25x8x16 a2 shapeCasts_S200x16_S25x8x16)
      (transpose S128x128 [1, 0] (extractStridedSlice S128x128 ![0, 0] a10 slices_S128x272_S128x128_0_0) transposes_S128x128_S128x128_1_0)
      (transpose S128x128 [1, 0] (extractStridedSlice S128x128 ![0, 128] a10 slices_S128x272_S128x128_0_128) transposes_S128x128_S128x128_1_0)
      (transpose S16x128 [1, 0] (extractStridedSlice S128x16 ![0, 256] a10 slices_S128x272_S128x16_0_256) transposes_S128x16_S16x128_1_0)
      (shapeCast S1x128 a11 shapeCasts_S128_S1x128) (transpose S128x128 [1, 0] a12 transposes_S128x128_S128x128_1_0) (shapeCast S1x128 a13 shapeCasts_S128_S1x128)
      (transpose S128x384 [1, 0] a6 transposes_S384x128_S128x384_1_0) (shapeCast S1x384 a8 shapeCasts_S384_S1x384)
      (transpose S128x384 [1, 0] a7 transposes_S384x128_S128x384_1_0) (shapeCast S1x384 a9 shapeCasts_S384_S1x384)
      (shapeCast S1250x8x128 a4 shapeCasts_S10000x128_S1250x8x128) (shapeCast S1250x8x1 a5 shapeCasts_S10000_S1250x8x1) where
  src _ := rfl
  dst _ := rfl
  src_lt k := hs (ix1 k)
  dst_lt k := hd (ix1 k)
  ts _ := rfl
  ef k x := ef_apply a2 k x
  w1s x j := w1s_apply a10 x j
  w1d x j := w1d_apply a10 x j
  w1e x j := w1e_apply a10 x j
  b1 a j := row128_apply a11 a j
  w2 x j := t128_apply a12 x j
  b2 a j := row128_apply a13 a j
  wih x j := t384_apply a6 x j
  bih a j := row384_apply a8 a j
  whh x j := t384_apply a7 x j
  bhh a j := row384_apply a9 a j
  mem g r q := (mem_apply a4 g r q).trans (state_mem a4 a5 _ _ q).symm
  lu g r q := (lu_apply a5 g r q).trans (state_lu a4 a5 _ _).symm

end Cert.Operands
-- ==== Proof.Result.lean ====
/- What the kernel's program leaves in its two result buffers: the specification's state after all interactions. -/
module

public import proofs.«01_k».proof.Proof.Blocks
public import proofs.«01_k».proof.Proof.Operands

@[expose] public section

set_option maxRecDepth 16384
set_option maxHeartbeats 1000000

noncomputable section

namespace Cert.Result

open Idealize.ShloMosaic Idealize.ShloMosaic.TcCoe Cert.KernelIdeal Cert.KernelIdeal.Gen Cert.Body Cert.Blocks

variable (m : (ℓ : Loc nD τ sig) → Buf (Elt Ideal) ℓ) (c : Dev nD)

/-- The region's input blocks hold the interactions, the weights and the state of the launch memory. -/
theorem fits (h : Cert.Pre_KernelIdeal m) (t : Fin cfg0.N) :
    Fits (I m c) (S m c) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t) := by
  obtain ⟨hs, hd⟩ := Nodes.of_fn _ _ _ _ _ _ _ _ _ _ _ _ _ _ (h c)
  rw [blk0, blk1, blk2, blk3, blk4, blk5, blk6, blk7, blk8, blk9, blk10, blk11, blk12, blk13, blk14, blk15, V_main_arg0, V_main_arg1, V_main_arg3,
    V_v0, V_v2, V_v4, V_v6, V_v7, V_v8, V_v9, V_v10, V_v11, V_v12, V_v13, V_v14, V_v15]
  exact Operands.fits _ _ _ _ _ _ _ _ _ _ _ _ _ _ hs hd

/-- The first output array after the region. -/
theorem arr16 (h : Cert.Pre_KernelIdeal m) (hH : Hyps m) (g : Fin 1250) (r : Fin 8) (q : Fin 128) :
    (dats m hH 0 c).arrAt 16 cfg0.N (ix3 g r q) = ((I m c).run (S m c) 200).mem (8 * g.val + r.val) q := by
  refine ((dats m hH 0 c).arrAt_emb_eq_after_last 16 t0_0 (by decide +kernel) (ix3 g r q)).trans ?_
  blk_simp
  rw [after0_16, outsAt0]
  exact (out_holds c _ _ _ _ _ _ _ _ _ _ _ _ _ _ _ _ _ _ _ _ _ _ _ _ _ _ _ _ _ _ _ _ _ _ _ _ _ _ _ _ _ _ _ _ _ _ _ _ _ _ _ _ _ _ _ _ (I m c) (S m c) (fits m c h t0_0)).1 g r q

/-- The second output array after the region. -/
theorem arr17 (h : Cert.Pre_KernelIdeal m) (hH : Hyps m) (g : Fin 1250) (r : Fin 8) (q : Fin 1) :
    (dats m hH 0 c).arrAt 17 cfg0.N (ix3 g r q) = ((I m c).run (S m c) 200).lu (8 * g.val + r.val) := by
  refine ((dats m hH 0 c).arrAt_emb_eq_after_last 17 t0_0 (by decide +kernel) (ix3 g r q)).trans ?_
  blk_simp
  rw [after0_17, outsAt0]
  exact (out_holds c _ _ _ _ _ _ _ _ _ _ _ _ _ _ _ _ _ _ _ _ _ _ _ _ _ _ _ _ _ _ _ _ _ _ _ _ _ _ _ _ _ _ _ _ _ _ _ _ _ _ _ _ _ _ _ _ (I m c) (S m c) (fits m c h t0_0)).2 g r q

/-- The first result buffer is the reshaped first output array. -/
theorem tail17 (hH : Hyps m) : Pipeline.afterTail₀ cfgs (dats m hH) 0 (V0 m) [hostOps1] c main_v17
    = shapeCast S10000x128 ((dats m hH 0 c).arrAt 16 cfg0.N) shapeCasts_S1250x8x128_S10000x128 := by
  unfold Pipeline.afterTail₀
  after_reads_simp
  exact congrArg (fun x => shapeCast S10000x128 x shapeCasts_S1250x8x128_S10000x128) (Pipeline.withArrays_arr spec0 winFacts0.arr_inj c (V0 m c) (fun w => (dats m hH 0 c).arrAt w cfg0.N) 16)

/-- The second result buffer is the reshaped second output array. -/
theorem tail18 (hH : Hyps m) : Pipeline.afterTail₀ cfgs (dats m hH) 0 (V0 m) [hostOps1] c main_v18
    = shapeCast S10000 ((dats m hH 0 c).arrAt 17 cfg0.N) shapeCasts_S1250x8x1_S10000 := by
  unfold Pipeline.afterTail₀
  after_reads_simp
  exact congrArg (fun x => shapeCast S10000 x shapeCasts_S1250x8x1_S10000) (Pipeline.withArrays_arr spec0 winFacts0.arr_inj c (V0 m c) (fun w => (dats m hH 0 c).arrAt w cfg0.N) 17)

end Cert.Result
-- ==== Proof.RefOps.lean ====
/- The reference's operations at coordinates: a dynamic read at a word in range, the wrapped word, a row or an entry overwritten,
   the products with transposed weights. -/
module

public import proofs.«01_k».proof.Proof.Data
public import proofs.«01_k».proof.Proof.Gen.ReferenceIdeal
public import Idealize.ShloMosaic.Lib.DynamicIndex
public import Idealize.ShloMosaic.Lib.Routing.OpsOne
public import Idealize.ShloMosaic.Lib.Pipeline.Value

@[expose] public section

set_option maxRecDepth 16384
set_option maxHeartbeats 400000

noncomputable section

namespace Cert.RefOps

open Idealize.ShloMosaic Cert.ReferenceIdeal Cert.ReferenceIdeal.Gen Cert.Data

/-- One entry read at a start in range. -/
theorem take_one {α : Type} {N : ℕ} (x : Arr1 α N) (st : Fin 1 → ℤ) (h : (⟨1, ![N]⟩ : Shape).Slices (fun _ => 0) S1) (hc : S1.ShapeCasts S_) (n : Fin N) (hst : st 0 = (n.val : ℤ)) (i : S_.Idx) :
    shapeCast S_ (Host.dynamicSlice S1 x st h) hc i = x (ix1 n) := by
  have hs : (⟨1, ![N]⟩ : Shape).Slices ![n.val] S1 := ⟨rfl, fun a => by
    have := n.isLt
    match a with | ⟨0, _⟩ => show n.val + 1 ≤ N; omega⟩
  rw [Host.dynamicSlice_eq_extractStridedSlice S1 x st ![n.val] h hs (fun a => match a with | ⟨0, _⟩ => hst)]
  refine (shapeCast_apply _ _ _ (ix1 0) ?_).trans (extractStridedSlice_apply _ _ _ _ _ fun a => ?_)
  · have : ∀ a b : Fin 1, a.val = b.val := by decide
    exact this _ _
  · match a with | ⟨0, _⟩ => rfl

/-- One row read at a start in range. -/
theorem take_row {α : Type} {N C : ℕ} (x : Arr2 α N C) (st : Fin 2 → ℤ) (h : (⟨2, ![N, C]⟩ : Shape).Slices (fun _ => 0) ⟨2, ![1, C]⟩) (hc : (⟨2, ![1, C]⟩ : Shape).ShapeCasts ⟨1, ![C]⟩) (n : Fin N)
    (hst : st 0 = (n.val : ℤ)) (hst1 : st 1 = 0) (c : Fin C) :
    shapeCast ⟨1, ![C]⟩ (Host.dynamicSlice ⟨2, ![1, C]⟩ x st h) hc (ix1 c) = x (ix2 n c) := by
  have hs : (⟨2, ![N, C]⟩ : Shape).Slices ![n.val, 0] ⟨2, ![1, C]⟩ := ⟨rfl, fun a => by
    have := n.isLt
    match a with
    | ⟨0, _⟩ => show n.val + 1 ≤ N; omega
    | ⟨1, _⟩ => show 0 + C ≤ C; omega⟩
  rw [Host.dynamicSlice_eq_extractStridedSlice _ x st ![n.val, 0] h hs (fun a => match a with | ⟨0, _⟩ => hst | ⟨1, _⟩ => hst1)]
  refine (shapeCast_apply _ _ _ (ix2 0 c) ?_).trans (extractStridedSlice_apply _ _ _ _ _ fun a => ?_)
  · rw [Shape.rowMajor_val_one, Shape.rowMajor_val_two]
    show 0 * C + c.val = c.val
    omega
  · match a with
    | ⟨0, _⟩ => rfl
    | ⟨1, _⟩ => show c.val = 0 + c.val; omega

/-- A word below 10000 is not wrapped. -/
theorem wrap (v : IVec S_ 32) (d : BitVec 32) (h : ∀ i, (v i).toNat < 10000) :
    select (cmpi .slt v (constantI S_ 32 0#32)) (addi v (constantI S_ 32 d)) v = v := by
  funext i
  refine select_slt_zero_of_nonneg v _ _ i ?_
  have := h i
  rw [BitVec.toInt_eq_toNat_cond]
  omega

/-- A word below 10000, read signed. -/
theorem toInt_word (w : BitVec 32) (h : w.toNat < 10000) : w.toInt = (w.toNat : ℤ) := by
  rw [BitVec.toInt_eq_toNat_cond]
  omega

/-- Update `c'` of a row overwritten lands at `(e, c)` exactly when `e` is the row's number and `c` is `c'`. -/
theorem lands_row {R C : ℕ} (d : ScatterDims (⟨2, ![R, C]⟩ : Shape) ⟨1, ![1]⟩ ⟨1, ![C]⟩) (hiw : d.insertedWindowDims = [0]) (hsd : d.scatterDimsToOperandDims = [0])
    (idx : IVec (⟨1, ![1]⟩ : Shape) 32) (k : Fin R) (hidx : (idx (ix1 0)).toInt = (k.val : ℤ)) (c' : Fin C) (e : Fin R) (c : Fin C) :
    d.resultIdx? (ValueIdx.ix1 c') idx = some (ValueIdx.ix2 e c) ↔ e = k ∧ c' = c := by
  have hm : (0 : Fin 2) ∈ d.scatterDimsToOperandDims := by rw [hsd]; exact List.mem_singleton.2 rfl
  have hkept : d.sKept = [1] := by
    show (⟨2, ![R, C]⟩ : Shape).kept d.insertedWindowDims = _
    rw [hiw]
    rfl
  have w0 : d.window (ValueIdx.ix1 c') 0 = 0 := by
    unfold ScatterDims.window
    rw [dif_neg fun h => (of_decide_eq_true (List.mem_filter.1 h).2) (by rw [hiw]; exact List.mem_singleton.2 rfl)]
  have w1 : d.window (ValueIdx.ix1 c') 1 = c'.val := by
    unfold ScatterDims.window
    rw [dif_pos (by rw [hkept]; exact List.mem_singleton.2 rfl)]
    have q : ∀ X : Fin 1, (ValueIdx.ix1 c' X).val = c'.val := fun X => by
      obtain rfl : X = 0 := Subsingleton.elim _ _
      rfl
    exact q _
  have s1 : d.start (ValueIdx.ix1 c') idx 1 = 0 := by
    unfold ScatterDims.start
    rw [dif_neg fun h => by rw [hsd] at h; exact absurd (List.mem_singleton.1 h) (by decide : (1 : Fin 2) ≠ 0)]
  have s0 : d.start (ValueIdx.ix1 c') idx 0 = (k.val : ℤ) := by
    unfold ScatterDims.start
    rw [dif_pos hm]
    have hsi : d.siIdx (ValueIdx.ix1 c') ⟨d.scatterDimsToOperandDims.idxOf 0, List.idxOf_lt_length_iff.2 hm⟩ = ix1 (0 : Fin 1) := by
      funext b
      match b with
      | ⟨0, _⟩ => exact Subsingleton.elim (α := Fin 1) _ _
    rw [hsi, hidx]
  rw [Fin.ext_iff, Fin.ext_iff, Routing.resultIdx?_ix2, s0, w0, s1, w1]
  omega

/-- A row overwritten: the new row there, the old entries elsewhere. -/
theorem set_row {α : Type} {R C : ℕ} (d : ScatterDims (⟨2, ![R, C]⟩ : Shape) ⟨1, ![1]⟩ ⟨1, ![C]⟩) (hiw : d.insertedWindowDims = [0]) (hsd : d.scatterDimsToOperandDims = [0])
    (x : Arr2 α R C) (idx : IVec (⟨1, ![1]⟩ : Shape) 32) (u : Arr1 α C) (k : Fin R) (hidx : (idx (ix1 0)).toInt = (k.val : ℤ)) (e : Fin R) (c : Fin C) :
    Host.scatter d (fun _ b => b) x idx u (ix2 e c) = if e = k then u (ix1 c) else x (ix2 e c) := by
  rw [ix2_eq_valueIdx, ix1_eq_valueIdx]
  have lands : ∀ j : (⟨1, ![C]⟩ : Shape).Idx, d.resultIdx? j idx = some (ValueIdx.ix2 e c) → e = k ∧ j 0 = c := fun j hj =>
    (lands_row d hiw hsd idx k hidx (j 0) e c).1 ((congrArg (fun t => d.resultIdx? t idx) (ValueIdx.eq_ix1 j).symm).trans hj)
  by_cases h : e = k
  · rw [if_pos h]
    exact Routing.scatter_set_hit d x idx u _ _ (fun j hj => (congrArg u (ValueIdx.eq_ix1 j)).trans (congrArg (fun t => u (ValueIdx.ix1 t)) (lands j hj).2)) (ValueIdx.ix1 c)
      ((lands_row d hiw hsd idx k hidx c e c).2 ⟨h, rfl⟩)
  · rw [if_neg h]
    exact Routing.scatter_set_miss d x idx u _ fun j hj => h (lands j hj).1

/-- An entry overwritten. -/
theorem set_one {α : Type} {N : ℕ} (d : ScatterDims (⟨1, ![N]⟩ : Shape) ⟨1, ![1]⟩ S_) (hiw : d.insertedWindowDims = [0]) (hsd : d.scatterDimsToOperandDims = [0])
    (x : Arr1 α N) (idx : IVec (⟨1, ![1]⟩ : Shape) 32) (u : S_.Idx → α) (t : α) (hu : ∀ i, u i = t) (k : Fin N) (hidx : (idx (ix1 0)).toInt = (k.val : ℤ)) (e : Fin N) :
    Host.scatter d (fun _ b => b) x idx u (ix1 e) = if e = k then t else x (ix1 e) := by
  rw [ix1_eq_valueIdx]
  by_cases h : e = k
  · rw [if_pos h]
    exact Routing.scatter_set_hit d x idx u _ _ (fun j _ => hu j) ValueIdx.ix0 ((Routing.lands_one d hiw hsd idx k hidx e).2 h)
  · rw [if_neg h]
    exact Routing.scatter_set_miss d x idx u _ fun j hj => h ((Routing.lands_one d hiw hsd idx k hidx e).1 (by rw [← ValueIdx.eq_ix0 j]; exact hj))

/-- A row times a transposed square matrix. -/
theorem dot128 (p : Arr1 EReal 128) (w : Arr2 EReal 128 128) (j : Fin 128) :
    Host.dotGeneral (F := Ideal) (φ₁ := .f32) (φ₂ := .f32) dot_S128_S128x128_S128_0_0_n_1_n_n none p (transpose S128x128 [1, 0] w transposes_S128x128_S128x128_1_0) (ix1 j) = ∑ x : Fin 128, p (ix1 x) * w (ix2 j x) := by
  pointwise

/-- A row times a transposed gate matrix. -/
theorem dot384 (p : Arr1 EReal 128) (w : Arr2 EReal 384 128) (j : Fin 384) :
    Host.dotGeneral (F := Ideal) (φ₁ := .f32) (φ₂ := .f32) dot_S128_S128x384_S384_0_0_n_1_n_n none p (transpose S128x384 [1, 0] w transposes_S384x128_S128x384_1_0) (ix1 j) = ∑ x : Fin 128, p (ix1 x) * w (ix2 j x) := by
  pointwise

/-- A row of 272 entries times the transposed first layer. -/
theorem dot272 (p : Arr1 EReal 272) (w : Arr2 EReal 128 272) (j : Fin 128) :
    Host.dotGeneral (F := Ideal) (φ₁ := .f32) (φ₂ := .f32) dot_S272_S272x128_S128_0_0_n_1_n_n none p (transpose S272x128 [1, 0] w transposes_S128x272_S272x128_1_0) (ix1 j) = ∑ x : Fin 272, p (ix1 x) * w (ix2 j x) := by
  pointwise

/-- A sum over 272 entries in its three parts. -/
theorem sum272 (f : Fin 272 → EReal) :
    ∑ x : Fin 272, f x = ∑ x : Fin 128, f ⟨x.val, by omega⟩ + ∑ x : Fin 128, f ⟨128 + x.val, by omega⟩ + ∑ x : Fin 16, f ⟨256 + x.val, by omega⟩ := by
  have a := Fin.sum_univ_add (a := 256) (b := 16) f
  have b := Fin.sum_univ_add (a := 128) (b := 128) fun x : Fin 256 => f ⟨x.val, by omega⟩
  exact a.trans (congrArg (· + _) b)

/-- Three rows joined. -/
theorem cat_apply (p q : Arr1 EReal 128) (e : Arr1 EReal 16) (x : Fin 272) :
    concatenate S272 0 [⟨S128, p⟩, ⟨S128, q⟩, ⟨S16, e⟩] concatenates_S128_S128_S16_S272_d0 (ix1 x)
      = if h : x.val < 128 then p (ix1 ⟨x.val, h⟩) else if h' : x.val < 256 then q (ix1 ⟨x.val - 128, by omega⟩) else e (ix1 ⟨x.val - 256, by omega⟩) := by
  pointwise
  by_cases h : x.val < 128
  · rw [dif_pos h, dif_pos h]
  · rw [dif_neg h, dif_neg h]
    by_cases h' : x.val < 256
    · rw [dif_pos (by omega), dif_pos h']
    · rw [dif_neg (by omega), dif_neg h']
      exact congrArg (fun z => e (ix1 z)) (Fin.ext (by show x.val - 128 - 128 = x.val - 256; omega))

/-- Three rows joined, times the transposed first layer. -/
theorem dot_cat (p q : Arr1 EReal 128) (e : Arr1 EReal 16) (w : Arr2 EReal 128 272) (j : Fin 128) :
    Host.dotGeneral (F := Ideal) (φ₁ := .f32) (φ₂ := .f32) dot_S272_S272x128_S128_0_0_n_1_n_n none
        (concatenate S272 0 [⟨S128, p⟩, ⟨S128, q⟩, ⟨S16, e⟩] concatenates_S128_S128_S16_S272_d0) (transpose S272x128 [1, 0] w transposes_S128x272_S272x128_1_0) (ix1 j)
      = ∑ x : Fin 128, p (ix1 x) * w (ix2 j ⟨x.val, by omega⟩) + ∑ x : Fin 128, q (ix1 x) * w (ix2 j ⟨128 + x.val, by omega⟩)
        + ∑ x : Fin 16, e (ix1 x) * w (ix2 j ⟨256 + x.val, by omega⟩) := by
  rw [dot272, sum272]
  congr 1
  · congr 1
    · refine Finset.sum_congr rfl fun x _ => ?_
      rw [cat_apply, dif_pos x.isLt]
    · refine Finset.sum_congr rfl fun x _ => ?_
      rw [cat_apply, dif_neg (by show ¬(128 + x.val < 128); omega), dif_pos (by show 128 + x.val < 256; omega)]
      congr 3; exact Fin.ext (by show 128 + x.val - 128 = x.val; omega)
  · refine Finset.sum_congr rfl fun x _ => ?_
    rw [cat_apply, dif_neg (by show ¬(256 + x.val < 128); omega), dif_neg (by show ¬(256 + x.val < 256); omega)]
    congr 3; exact Fin.ext (by show 256 + x.val - 256 = x.val; omega)

/-- The quotient form of the logistic function. -/
theorem logistic_apply (x : Arr1 EReal 128) (c : Fin 128) :
    Host.divf (F := Ideal) (φ := .f32) (broadcastInDim S128 ![] bcast_S_S128 (constant (F := Ideal) S_ .f32 0x3F800000#32)) (addf (broadcastInDim S128 ![] bcast_S_S128 (constant S_ .f32 0x3F800000#32)) (Host.exp (Host.negf x))) (ix1 c)
      = Ideal.logistic (x (ix1 c)) := by
  pointwise
  rfl

end Cert.RefOps
-- ==== Proof.RefCell.lean ====
/- The reference's composed terms at coordinates: a node's decayed memory, the message, the gates' two parts, the gated cell. -/
module

public import proofs.«01_k».proof.Proof.RefOps

@[expose] public section

set_option maxRecDepth 16384
set_option maxHeartbeats 400000

noncomputable section

namespace Cert.RefCell

open Idealize.ShloMosaic Cert.ReferenceIdeal Cert.ReferenceIdeal.Gen Cert.Data Cert.RefOps

/-- The decayed memory of node `n`. -/
theorem prev_apply (mem : Arr2 EReal 10000 128) (lu : Arr1 EReal 10000) (w : IVec S_ 32) (t : FVec Ideal S_ .f32) (n : Fin 10000) (t0 : EReal) (hw : ∀ i, (w i).toNat = n.val)
    (ht : ∀ i, t i = t0) (c : Fin 128) :
    mulf (F := Ideal) (φ := .f32) (shapeCast S128 (Host.dynamicSlice S1x128 mem (fun k => (((![select (cmpi .slt w (constantI S_ 32 0#32)) (addi w (constantI S_ 32 10000#32)) w, select (cmpi .slt (constantI S_ 32 0#32) (constantI S_ 32 0#32)) (addi (constantI S_ 32 0#32) (constantI S_ 32 128#32)) (constantI S_ 32 0#32)] : Fin 2 → (⟨S_, .i32⟩ : BufTy).Contents (Elt Ideal))) k (Shape.Idx.first h_S_)).toInt) sliceFits_S10000x128_S1x128) shapeCasts_S1x128_S128)
        (broadcastInDim S128 ![] bcast_S_S128 (Host.exp (mulf (constant S_ .f32 0xBDCCCCCD#32) (maximumf (subf t (shapeCast S_ (Host.dynamicSlice S1 lu (fun k => (((![select (cmpi .slt w (constantI S_ 32 0#32)) (addi w (constantI S_ 32 10000#32)) w] : Fin 1 → (⟨S_, .i32⟩ : BufTy).Contents (Elt Ideal))) k (Shape.Idx.first h_S_)).toInt) sliceFits_S10000_S1) shapeCasts_S1_S_)) (constant S_ .f32 0x00000000#32)))))
        (ix1 c)
      = mem (ix2 n c) * Ideal.exp (Ideal.ofBits .f32 0xBDCCCCCD#32 * max (t0 - lu (ix1 n)) 0) := by
  have hl : ∀ i, (w i).toNat < 10000 := fun i => by rw [hw i]; exact n.isLt
  rw [wrap w _ hl]
  refine congrArg₂ (· * ·) (take_row mem _ _ _ n ?_ ?_ c) ?_
  · show (w _).toInt = _
    rw [toInt_word _ (hl _), hw]
  · rfl
  · have e := take_one lu (fun k => (((![w] : Fin 1 → (⟨S_, .i32⟩ : BufTy).Contents (Elt Ideal))) k (Shape.Idx.first h_S_)).toInt) sliceFits_S10000_S1 shapeCasts_S1_S_ n
      (by show (w _).toInt = _; rw [toInt_word _ (hl _), hw])
    revert e
    generalize shapeCast S_ (Host.dynamicSlice S1 lu _ sliceFits_S10000_S1) shapeCasts_S1_S_ = z
    intro e
    obtain rfl : z = fun _ => lu (ix1 n) := funext e
    obtain rfl : t = fun _ => t0 := funext ht
    pointwise

/-- The message. -/
theorem msg_apply (p q : Arr1 EReal 128) (e : Arr1 EReal 16) (w1 : Arr2 EReal 128 272) (b1 : Arr1 EReal 128) (w2 : Arr2 EReal 128 128) (b2 : Arr1 EReal 128)
    (P Q : Fin 128 → EReal) (E : Fin 16 → EReal) (hp : ∀ x, p (ix1 x) = P x) (hq : ∀ x, q (ix1 x) = Q x) (he : ∀ x, e (ix1 x) = E x) (j : Fin 128) :
    addf (F := Ideal) (φ := .f32) (Host.dotGeneral (φ₁ := .f32) (φ₂ := .f32) dot_S128_S128x128_S128_0_0_n_1_n_n none
        (maximumf (addf (Host.dotGeneral (φ₁ := .f32) (φ₂ := .f32) dot_S272_S272x128_S128_0_0_n_1_n_n none
            (concatenate S272 0 [⟨S128, p⟩, ⟨S128, q⟩, ⟨S16, e⟩] concatenates_S128_S128_S16_S272_d0)
            (transpose S272x128 [1, 0] w1 transposes_S128x272_S272x128_1_0)) b1) (broadcastInDim S128 ![] bcast_S_S128 (constant S_ .f32 0x00000000#32)))
        (transpose S128x128 [1, 0] w2 transposes_S128x128_S128x128_1_0)) b2 (ix1 j)
      = ∑ x : Fin 128, max (∑ y : Fin 128, P y * w1 (ix2 x ⟨y.val, by omega⟩) + ∑ y : Fin 128, Q y * w1 (ix2 x ⟨128 + y.val, by omega⟩)
          + (∑ y : Fin 16, E y * w1 (ix2 x ⟨256 + y.val, by omega⟩) + b1 (ix1 x))) 0 * w2 (ix2 j x) + b2 (ix1 j) := by
  refine congrArg (· + b2 (ix1 j)) ((dot128 _ w2 j).trans (Finset.sum_congr rfl fun x _ => congrArg (· * w2 (ix2 j x)) ?_))
  refine (congrArg (fun z => max (z + b1 (ix1 x)) _) (dot_cat p q e w1 x)).trans ?_
  rw [add_assoc]
  simp only [hp, hq, he]
  congr 1
  pointwise

/-- One of the gates' parts. -/
theorem gate_apply (p : Arr1 EReal 128) (w : Arr2 EReal 384 128) (b : Arr1 EReal 384) (j : Fin 384) :
    addf (F := Ideal) (φ := .f32) (Host.dotGeneral (φ₁ := .f32) (φ₂ := .f32) dot_S128_S128x384_S384_0_0_n_1_n_n none p (transpose S128x384 [1, 0] w transposes_S384x128_S128x384_1_0)) b (ix1 j)
      = ∑ x : Fin 128, p (ix1 x) * w (ix2 j x) + b (ix1 j) :=
  congrArg (· + b (ix1 j)) (dot384 p w j)

/-- The gated cell, its middle gate `z` given. -/
theorem cell_apply (g h : Arr1 EReal 384) (z p : Arr1 EReal 128) (G H : Fin 384 → EReal) (hg : ∀ j, g (ix1 j) = G j) (hh : ∀ j, h (ix1 j) = H j)
    (hz : ∀ c : Fin 128, z (ix1 c) = Ideal.logistic (G ⟨128 + c.val, by omega⟩ + H ⟨128 + c.val, by omega⟩)) (P : Fin 128 → EReal) (hp : ∀ c, p (ix1 c) = P c) (c : Fin 128) :
    addf (F := Ideal) (φ := .f32) (mulf (subf (broadcastInDim S128 ![] bcast_S_S128 (constant S_ .f32 0x3F800000#32)) z)
        (Host.tanh (addf (extractStridedSlice S128 ![256] g slices_S384_S128_256)
          (mulf (Host.divf (broadcastInDim S128 ![] bcast_S_S128 (constant S_ .f32 0x3F800000#32)) (addf (broadcastInDim S128 ![] bcast_S_S128 (constant S_ .f32 0x3F800000#32))
            (Host.exp (Host.negf (addf (extractStridedSlice S128 ![0] g slices_S384_S128_0) (extractStridedSlice S128 ![0] h slices_S384_S128_0)))))) (extractStridedSlice S128 ![256] h slices_S384_S128_256)))))
        (mulf z p) (ix1 c)
      = Spec.cell G H P c := by
  pointwise [hg, hh, hz, hp]
  rfl

/-- The middle gate. -/
theorem z_apply (g h : Arr1 EReal 384) (G H : Fin 384 → EReal) (hg : ∀ j, g (ix1 j) = G j) (hh : ∀ j, h (ix1 j) = H j) (c : Fin 128) :
    Host.divf (F := Ideal) (φ := .f32) (broadcastInDim S128 ![] bcast_S_S128 (constant S_ .f32 0x3F800000#32)) (addf (broadcastInDim S128 ![] bcast_S_S128 (constant S_ .f32 0x3F800000#32))
        (Host.exp (Host.negf (addf (extractStridedSlice S128 ![128] g slices_S384_S128_128) (extractStridedSlice S128 ![128] h slices_S384_S128_128))))) (ix1 c)
      = Ideal.logistic (G ⟨128 + c.val, by omega⟩ + H ⟨128 + c.val, by omega⟩) := by
  refine (logistic_apply _ c).trans (congrArg Ideal.logistic ?_)
  pointwise [hg, hh]

/-- Two rows overwritten, one after the other. -/
theorem set_two_rows (x : Arr2 EReal 10000 128) (v w : IVec S_ 32) (u u' : Arr1 EReal 128) (n n' : Fin 10000) (hv : ∀ i, (v i).toNat = n.val) (hw : ∀ i, (w i).toNat = n'.val) (e : Fin 10000) (c : Fin 128) :
    Host.scatter scatter_S10000x128_S1_S128_0_0_0_0 (fun _ b => b)
        (Host.scatter scatter_S10000x128_S1_S128_0_0_0_0 (fun _ b => b) x (broadcastInDim S1 ![] bcast_S_S1 (select (cmpi .slt v (constantI S_ 32 0#32)) (addi v (constantI S_ 32 10000#32)) v)) u)
        (broadcastInDim S1 ![] bcast_S_S1 (select (cmpi .slt w (constantI S_ 32 0#32)) (addi w (constantI S_ 32 10000#32)) w)) u' (ix2 e c)
      = if e.val = n'.val then u' (ix1 c) else if e.val = n.val then u (ix1 c) else x (ix2 e c) := by
  have lv : ∀ i, (v i).toNat < 10000 := fun i => by rw [hv i]; exact n.isLt
  have lw : ∀ i, (w i).toNat < 10000 := fun i => by rw [hw i]; exact n'.isLt
  rw [wrap v _ lv, wrap w _ lw, set_row _ rfl rfl _ _ u' n' ((toInt_word _ (lw _)).trans (congrArg _ (hw _))), set_row _ rfl rfl x _ u n ((toInt_word _ (lv _)).trans (congrArg _ (hv _)))]
  simp only [Fin.ext_iff]

/-- Two entries overwritten, one after the other. -/
theorem set_two_ones (x : Arr1 EReal 10000) (v w : IVec S_ 32) (u : S_.Idx → EReal) (t : EReal) (hu : ∀ i, u i = t) (n n' : Fin 10000) (hv : ∀ i, (v i).toNat = n.val) (hw : ∀ i, (w i).toNat = n'.val) (e : Fin 10000) :
    Host.scatter scatter_S10000_S1_S__n_0_0_0 (fun _ b => b)
        (Host.scatter scatter_S10000_S1_S__n_0_0_0 (fun _ b => b) x (broadcastInDim S1 ![] bcast_S_S1 (select (cmpi .slt v (constantI S_ 32 0#32)) (addi v (constantI S_ 32 10000#32)) v)) u)
        (broadcastInDim S1 ![] bcast_S_S1 (select (cmpi .slt w (constantI S_ 32 0#32)) (addi w (constantI S_ 32 10000#32)) w)) u (ix1 e)
      = if e.val = n'.val then t else if e.val = n.val then t else x (ix1 e) := by
  have lv : ∀ i, (v i).toNat < 10000 := fun i => by rw [hv i]; exact n.isLt
  have lw : ∀ i, (w i).toNat < 10000 := fun i => by rw [hw i]; exact n'.isLt
  rw [wrap v _ lv, wrap w _ lw, set_one _ rfl rfl _ _ u t hu n' ((toInt_word _ (lw _)).trans (congrArg _ (hw _))), set_one _ rfl rfl x _ u t hu n ((toInt_word _ (lv _)).trans (congrArg _ (hv _)))]
  simp only [Fin.ext_iff]

end Cert.RefCell
-- ==== Proof.RefStep.lean ====
/- One trip of the reference's loop is one interaction of the specification, and 200 trips are all of them. -/
module

public import proofs.«01_k».proof.Proof.RefCell
public import proofs.«01_k».proof.Proof.Gen.ReferenceIdeal.Run

@[expose] public section

set_option maxRecDepth 16384
set_option maxHeartbeats 400000

noncomputable section

namespace Cert.RefStep

open Idealize.ShloMosaic Idealize.ShloMosaic.TcCoe Cert.ReferenceIdeal Cert.ReferenceIdeal.Gen Cert.ReferenceIdeal.Value Cert.Data Cert.RefOps Cert.RefCell

/-- The fourteen argument arrays. -/
@[ext]
structure Args where
  a0 : Arr1 (BitVec 32) 200
  a1 : Arr1 (BitVec 32) 200
  a2 : Arr2 EReal 200 16
  a3 : Arr1 EReal 200
  a4 : Arr2 EReal 10000 128
  a5 : Arr1 EReal 10000
  a6 : Arr2 EReal 384 128
  a7 : Arr2 EReal 384 128
  a8 : Arr1 EReal 384
  a9 : Arr1 EReal 384
  a10 : Arr2 EReal 128 272
  a11 : Arr1 EReal 128
  a12 : Arr2 EReal 128 128
  a13 : Arr1 EReal 128

/-- The specification's interactions and weights. -/
def Args.I (A : Args) : Spec.Inputs := inputs A.a0 A.a1 A.a2 A.a3 A.a6 A.a7 A.a8 A.a9 A.a10 A.a11 A.a12 A.a13

/-- The specification's first state. -/
def Args.S (A : Args) : Spec.State := state A.a4 A.a5

/-- The loop's buffers before trip `k`: the arguments, the counter, and state `S` in the two carried results. -/
structure Holds (A : Args) (k : ℕ) (S : Spec.State) (V : Valuation τ sig (Elt Ideal)) : Prop where
  n0 : V (Proc.devRef .tc main_v0_0) = A.a0
  n1 : V (Proc.devRef .tc main_v0_1) = A.a1
  n2 : V (Proc.devRef .tc main_v0_2) = A.a2
  n3 : V (Proc.devRef .tc main_v0_3) = A.a3
  n4 : V (Proc.devRef .tc main_v0_4) = A.a10
  n5 : V (Proc.devRef .tc main_v0_5) = A.a11
  n6 : V (Proc.devRef .tc main_v0_6) = A.a12
  n7 : V (Proc.devRef .tc main_v0_7) = A.a13
  n8 : V (Proc.devRef .tc main_v0_8) = A.a6
  n9 : V (Proc.devRef .tc main_v0_9) = A.a8
  n10 : V (Proc.devRef .tc main_v0_10) = A.a7
  n11 : V (Proc.devRef .tc main_v0_11) = A.a9
  n12 : V (Proc.devRef .tc main_v0_12) = fun _ => BitVec.ofNat 32 k
  mem (n : Fin 10000) (c : Fin 128) : V (Proc.devRef .tc main_v0_13) (ix2 n c) = S.mem n.val c
  lu (n : Fin 10000) : V (Proc.devRef .tc main_v0_14) (ix1 n) = S.lu n.val

/-- The counter's word, read signed. -/
theorem counter (k : Fin 200) : (BitVec.ofNat 32 k.val).toInt = (k.val : ℤ) := toInt_ofNat_of_lt (by have := k.isLt; omega)

section
variable {A : Args} {k : Fin 200} {S : Spec.State} {V : Valuation τ sig (Elt Ideal)} (H : Holds A k.val S V)
  (hs : ∀ i, (A.a0 i).toNat < 10000) (hd : ∀ i, (A.a1 i).toNat < 10000)
include H

/-- The source's word. -/
theorem src_word (i : S_.Idx) : res_main_while0b_v1 V i = A.a0 (ix1 k) := by
  unfold res_main_while0b_v1
  rw [H.n0, H.n12]
  exact take_one A.a0 _ _ _ k (counter k) i

/-- The target's word. -/
theorem dst_word (i : S_.Idx) : res_main_while0b_v2 V i = A.a1 (ix1 k) := by
  unfold res_main_while0b_v2
  rw [H.n1, H.n12]
  exact take_one A.a1 _ _ _ k (counter k) i

/-- The time. -/
theorem time (i : S_.Idx) : res_main_while0b_v4 V i = A.a3 (ix1 k) := by
  unfold res_main_while0b_v4
  rw [H.n3, H.n12]
  exact take_one A.a3 _ _ _ k (counter k) i

include hs in
/-- The source's decayed memory. -/
theorem prev_src (c : Fin 128) : res_main_while0b_v30 V (ix1 c) = S.prev (A.I.ts k) (A.I.src k) c := by
  unfold res_main_while0b_v30
  refine (prev_apply (V (Proc.devRef .tc main_v0_13)) (V (Proc.devRef .tc main_v0_14)) (res_main_while0b_v1 V) (res_main_while0b_v4 V) ⟨(A.a0 (ix1 k)).toNat, hs _⟩ (A.a3 (ix1 k))
    (fun i => congrArg BitVec.toNat (src_word H i)) (time H) c).trans ?_
  rw [H.mem, H.lu]
  rfl

include hd in
/-- The target's decayed memory. -/
theorem prev_dst (c : Fin 128) : res_main_while0b_v42 V (ix1 c) = S.prev (A.I.ts k) (A.I.dst k) c := by
  unfold res_main_while0b_v42
  refine (prev_apply (V (Proc.devRef .tc main_v0_13)) (V (Proc.devRef .tc main_v0_14)) (res_main_while0b_v2 V) (res_main_while0b_v4 V) ⟨(A.a1 (ix1 k)).toNat, hd _⟩ (A.a3 (ix1 k))
    (fun i => congrArg BitVec.toNat (dst_word H i)) (time H) c).trans ?_
  rw [H.mem, H.lu]
  rfl

include hs hd in
/-- The message. -/
theorem msg (j : Fin 128) : res_main_while0b_v50 V (ix1 j) = A.I.msg (S.prev (A.I.ts k) (A.I.src k)) (S.prev (A.I.ts k) (A.I.dst k)) (A.I.feat k) j := by
  unfold res_main_while0b_v50
  rw [H.n2, H.n12, H.n4, H.n5, H.n6, H.n7]
  exact msg_apply (res_main_while0b_v30 V) (res_main_while0b_v42 V) _ A.a10 A.a11 A.a12 A.a13 _ _ _ (prev_src H hs) (prev_dst H hd)
    (fun x => take_row A.a2 _ sliceFits_S200x16_S1x16 shapeCasts_S1x16_S16 k (counter k) rfl x) j

include hs hd in
/-- The gates' input part, as the source's update uses it. -/
theorem gin_src (j : Fin 384) : res_main_while0b_v53 V (ix1 j) = A.I.gin (S.prev (A.I.ts k) (A.I.src k)) (S.prev (A.I.ts k) (A.I.dst k)) (A.I.feat k) j := by
  unfold res_main_while0b_v53
  rw [H.n8, H.n9]
  refine (gate_apply (res_main_while0b_v50 V) A.a6 A.a8 j).trans ?_
  simp only [msg H hs hd]
  rfl

include hs hd in
/-- The gates' input part, as the target's update uses it. -/
theorem gin_dst (j : Fin 384) : res_main_while0b_v87 V (ix1 j) = A.I.gin (S.prev (A.I.ts k) (A.I.src k)) (S.prev (A.I.ts k) (A.I.dst k)) (A.I.feat k) j := by
  unfold res_main_while0b_v87
  rw [H.n8, H.n9]
  refine (gate_apply (res_main_while0b_v50 V) A.a6 A.a8 j).trans ?_
  simp only [msg H hs hd]
  rfl

include hs in
/-- The gates' part from the source's decayed memory. -/
theorem ghid_src (j : Fin 384) : res_main_while0b_v56 V (ix1 j) = A.I.ghid (S.prev (A.I.ts k) (A.I.src k)) j := by
  unfold res_main_while0b_v56
  rw [H.n10, H.n11]
  refine (gate_apply (res_main_while0b_v30 V) A.a7 A.a9 j).trans ?_
  simp only [prev_src H hs]
  rfl

include hd in
/-- The gates' part from the target's decayed memory. -/
theorem ghid_dst (j : Fin 384) : res_main_while0b_v90 V (ix1 j) = A.I.ghid (S.prev (A.I.ts k) (A.I.dst k)) j := by
  unfold res_main_while0b_v90
  rw [H.n10, H.n11]
  refine (gate_apply (res_main_while0b_v42 V) A.a7 A.a9 j).trans ?_
  simp only [prev_dst H hd]
  rfl

include hs hd in
/-- The memory after the trip. -/
theorem mem_step (n : Fin 10000) (c : Fin 128) : step_main_v0_13 V (ix2 n c) = (A.I.step k S).mem n.val c := by
  unfold step_main_v0_13
  rw [id_eq]
  refine (set_two_rows (V (Proc.devRef .tc main_v0_13)) (res_main_while0b_v1 V) (res_main_while0b_v2 V) _ _ ⟨(A.a0 (ix1 k)).toNat, hs _⟩ ⟨(A.a1 (ix1 k)).toNat, hd _⟩
    (fun i => congrArg BitVec.toNat (src_word H i)) (fun i => congrArg BitVec.toNat (dst_word H i)) n c).trans ?_
  have ed := cell_apply (res_main_while0b_v87 V) (res_main_while0b_v90 V) (res_main_while0b_v110 V) (res_main_while0b_v42 V) _ _ (gin_dst H hs hd) (ghid_dst H hd)
    (by intro c; unfold res_main_while0b_v110; exact z_apply _ _ _ _ (gin_dst H hs hd) (ghid_dst H hd) c) _ (prev_dst H hd) c
  have es := cell_apply (res_main_while0b_v53 V) (res_main_while0b_v56 V) (res_main_while0b_v76 V) (res_main_while0b_v30 V) _ _ (gin_src H hs hd) (ghid_src H hs)
    (by intro c; unfold res_main_while0b_v76; exact z_apply _ _ _ _ (gin_src H hs hd) (ghid_src H hs) c) _ (prev_src H hs) c
  rw [ed, es, H.mem]
  rfl

include hs hd in
/-- The times of last update after the trip. -/
theorem lu_step (n : Fin 10000) : step_main_v0_14 V (ix1 n) = (A.I.step k S).lu n.val := by
  unfold step_main_v0_14
  rw [id_eq]
  refine (set_two_ones (V (Proc.devRef .tc main_v0_14)) (res_main_while0b_v1 V) (res_main_while0b_v2 V) _ (A.a3 (ix1 k)) (time H) ⟨(A.a0 (ix1 k)).toNat, hs _⟩ ⟨(A.a1 (ix1 k)).toNat, hd _⟩
    (fun i => congrArg BitVec.toNat (src_word H i)) (fun i => congrArg BitVec.toNat (dst_word H i)) n).trans ?_
  rw [H.lu]
  rfl

include hs hd in
/-- One trip is one interaction. -/
theorem holds_step : Holds A (k.val + 1) (A.I.step k S) (STEP V) where
  n0 := (STEP_main_v0_0 V).trans H.n0
  n1 := (STEP_main_v0_1 V).trans H.n1
  n2 := (STEP_main_v0_2 V).trans H.n2
  n3 := (STEP_main_v0_3 V).trans H.n3
  n4 := (STEP_main_v0_4 V).trans H.n4
  n5 := (STEP_main_v0_5 V).trans H.n5
  n6 := (STEP_main_v0_6 V).trans H.n6
  n7 := (STEP_main_v0_7 V).trans H.n7
  n8 := (STEP_main_v0_8 V).trans H.n8
  n9 := (STEP_main_v0_9 V).trans H.n9
  n10 := (STEP_main_v0_10 V).trans H.n10
  n11 := (STEP_main_v0_11 V).trans H.n11
  n12 := by
    rw [STEP_main_v0_12]
    unfold step_main_v0_12
    rw [H.n12]
    funext i
    show BitVec.ofNat 32 k.val + 1#32 = BitVec.ofNat 32 (k.val + 1)
    simp only [BitVec.ofNat_add]
  mem n c := by rw [STEP_main_v0_13]; exact mem_step H hs hd n c
  lu n := by rw [STEP_main_v0_14]; exact lu_step H hs hd n

end

/-- After `k` trips the carried buffers hold the specification's state after `k` interactions. -/
theorem holds_iterate {A : Args} {V : Valuation τ sig (Elt Ideal)} (H : Holds A 0 A.S V) (hs : ∀ i, (A.a0 i).toNat < 10000) (hd : ∀ i, (A.a1 i).toNat < 10000) :
    ∀ k : ℕ, k ≤ 200 → Holds A k (A.I.run A.S k) (STEP^[k] V)
  | 0, _ => H
  | k + 1, h => by
    rw [Function.iterate_succ_apply', A.I.run_succ A.S ⟨k, h⟩]
    exact holds_step (k := ⟨k, h⟩) (holds_iterate H hs hd k (by omega)) hs hd

end Cert.RefStep
-- ==== Proof.RefResult.lean ====
/- What the reference's program leaves in its two result buffers: the specification's state after all interactions. -/
module

public import proofs.«01_k».proof.Proof.RefStep

@[expose] public section

set_option maxRecDepth 65536
set_option maxHeartbeats 500000

noncomputable section

namespace Cert.RefResult

open Idealize.ShloMosaic Idealize.ShloMosaic.StableHlo Idealize.ShloMosaic.TcCoe Cert.ReferenceIdeal Cert.ReferenceIdeal.Gen Cert.ReferenceIdeal.Value Cert.Data Cert.RefStep

variable (m : (ℓ : Loc nD τ sig) → Buf (Elt Ideal) ℓ) (c : Dev nD)

/-- The argument arrays of the launch memory. -/
def args : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)

/-! Each carried buffer enters the loop holding its argument. -/

/-- Carried buffer 0 enters the loop holding argument 0. -/
theorem entry0 : entryContents preI m c (Proc.devRef .tc main_v0_0) = m ((c.tc : Thread nD τ).loc main_arg0) := by
  simp only [entryContents, afterL_cons, afterL_nil]
  after_reads_simp <;> rfl

/-- Carried buffer 1 enters the loop holding argument 1. -/
theorem entry1 : entryContents preI m c (Proc.devRef .tc main_v0_1) = m ((c.tc : Thread nD τ).loc main_arg1) := by
  simp only [entryContents, afterL_cons, afterL_nil]
  after_reads_simp <;> rfl

/-- Carried buffer 2 enters the loop holding argument 2. -/
theorem entry2 : entryContents preI m c (Proc.devRef .tc main_v0_2) = m ((c.tc : Thread nD τ).loc main_arg2) := by
  simp only [entryContents, afterL_cons, afterL_nil]
  after_reads_simp <;> rfl

/-- Carried buffer 3 enters the loop holding argument 3. -/
theorem entry3 : entryContents preI m c (Proc.devRef .tc main_v0_3) = m ((c.tc : Thread nD τ).loc main_arg3) := by
  simp only [entryContents, afterL_cons, afterL_nil]
  after_reads_simp <;> rfl

/-- Carried buffer 4 enters the loop holding argument 10. -/
theorem entry4 : entryContents preI m c (Proc.devRef .tc main_v0_4) = m ((c.tc : Thread nD τ).loc main_arg10) := by
  simp only [entryContents, afterL_cons, afterL_nil]
  after_reads_simp <;> rfl

/-- Carried buffer 5 enters the loop holding argument 11. -/
theorem entry5 : entryContents preI m c (Proc.devRef .tc main_v0_5) = m ((c.tc : Thread nD τ).loc main_arg11) := by
  simp only [entryContents, afterL_cons, afterL_nil]
  after_reads_simp <;> rfl

/-- Carried buffer 6 enters the loop holding argument 12. -/
theorem entry6 : entryContents preI m c (Proc.devRef .tc main_v0_6) = m ((c.tc : Thread nD τ).loc main_arg12) := by
  simp only [entryContents, afterL_cons, afterL_nil]
  after_reads_simp <;> rfl

/-- Carried buffer 7 enters the loop holding argument 13. -/
theorem entry7 : entryContents preI m c (Proc.devRef .tc main_v0_7) = m ((c.tc : Thread nD τ).loc main_arg13) := by
  simp only [entryContents, afterL_cons, afterL_nil]
  after_reads_simp <;> rfl

/-- Carried buffer 8 enters the loop holding argument 6. -/
theorem entry8 : entryContents preI m c (Proc.devRef .tc main_v0_8) = m ((c.tc : Thread nD τ).loc main_arg6) := by
  simp only [entryContents, afterL_cons, afterL_nil]
  after_reads_simp <;> rfl

/-- Carried buffer 9 enters the loop holding argument 8. -/
theorem entry9 : entryContents preI m c (Proc.devRef .tc main_v0_9) = m ((c.tc : Thread nD τ).loc main_arg8) := by
  simp only [entryContents, afterL_cons, afterL_nil]
  after_reads_simp <;> rfl

/-- Carried buffer 10 enters the loop holding argument 7. -/
theorem entry10 : entryContents preI m c (Proc.devRef .tc main_v0_10) = m ((c.tc : Thread nD τ).loc main_arg7) := by
  simp only [entryContents, afterL_cons, afterL_nil]
  after_reads_simp <;> rfl

/-- Carried buffer 11 enters the loop holding argument 9. -/
theorem entry11 : entryContents preI m c (Proc.devRef .tc main_v0_11) = m ((c.tc : Thread nD τ).loc main_arg9) := by
  simp only [entryContents, afterL_cons, afterL_nil]
  after_reads_simp <;> rfl

/-- Carried buffer 13 enters the loop holding argument 4. -/
theorem entry13 : entryContents preI m c (Proc.devRef .tc main_v0_13) = m ((c.tc : Thread nD τ).loc main_arg4) := by
  simp only [entryContents, afterL_cons, afterL_nil]
  after_reads_simp <;> rfl

/-- Carried buffer 14 enters the loop holding argument 5. -/
theorem entry14 : entryContents preI m c (Proc.devRef .tc main_v0_14) = m ((c.tc : Thread nD τ).loc main_arg5) := by
  simp only [entryContents, afterL_cons, afterL_nil]
  after_reads_simp <;> rfl

/-- The loop is entered at the arguments. -/
theorem entry : Holds (args m c) 0 (args m c).S (entryContents preI m c) where
  n0 := entry0 m c
  n1 := entry1 m c
  n2 := entry2 m c
  n3 := entry3 m c
  n4 := entry4 m c
  n5 := entry5 m c
  n6 := entry6 m c
  n7 := entry7 m c
  n8 := entry8 m c
  n9 := entry9 m c
  n10 := entry10 m c
  n11 := entry11 m c
  n12 := ctr_entry m c
  mem n q := (congrFun (entry13 m c) (ix2 n q)).trans (state_mem (args m c).a4 (args m c).a5 n.val n.isLt q).symm
  lu n := (congrFun (entry14 m c) (ix1 n)).trans (state_lu (args m c).a4 (args m c).a5 n.val n.isLt).symm

/-- After the loop the two carried results hold the specification's last state. -/
theorem final (hs : ∀ i, ((args m c).a0 i).toNat < 10000) (hd : ∀ i, ((args m c).a1 i).toNat < 10000) :
    Holds (args m c) 200 ((args m c).I.run (args m c).S 200) (STEP^[200] (entryContents preI m c)) :=
  holds_iterate (entry m c) hs hd 200 le_rfl

end Cert.RefResult
-- ==== Proof.Algebraic.lean ====
/- The idealized kernel and the idealized reference end with the same two arrays. -/
module

public import proofs.«01_k».proof.Proof.Result
public import proofs.«01_k».proof.Proof.RefResult
public import proofs.«01_k».proof.Proof.Gen.KernelIdeal.Frame
public import Idealize.ShloMosaic.Lib.Quiescent

@[expose] public section

set_option maxRecDepth 16384
set_option maxHeartbeats 1000000

noncomputable section

namespace Cert.Algebraic

open Idealize.ShloMosaic Idealize.ShloMosaic.TcCoe Idealize.SL.Sem Cert.KernelIdeal Cert.KernelIdeal.Gen Cert.Data Cert.Blocks Cert.Result

/-- Rows in 1250 groups of eight, regrouped as 10000 rows: row `n` is row `n % 8` of group `n / 8`. -/
theorem rows_apply (x : (⟨3, ![1250, 8, 128]⟩ : Shape).Idx → EReal) (h : S1250x8x128.ShapeCasts S10000x128) (n : Fin 10000) (q : Fin 128) :
    shapeCast S10000x128 x h (ix2 n q) = x (ix3 (⟨n.val / 8, by omega⟩ : Fin 1250) (⟨n.val % 8, by omega⟩ : Fin 8) q) := by
  refine shapeCast_apply _ _ _ _ ?_
  rw [Shape.rowMajor_val_three, Shape.rowMajor_val_two]
  show (n.val / 8 * 8 + n.val % 8) * 128 + q.val = n.val * 128 + q.val
  omega

/-- The same for one column. -/
theorem col_apply (x : (⟨3, ![1250, 8, 1]⟩ : Shape).Idx → EReal) (h : S1250x8x1.ShapeCasts S10000) (n : Fin 10000) :
    shapeCast S10000 x h (ix1 n) = x (ix3 (⟨n.val / 8, by omega⟩ : Fin 1250) (⟨n.val % 8, by omega⟩ : Fin 8) (0 : Fin 1)) := by
  refine shapeCast_apply _ _ _ _ ?_
  rw [Shape.rowMajor_val_three, Shape.rowMajor_val_one]
  show (n.val / 8 * 8 + n.val % 8) * 1 + 0 = n.val
  omega

section
variable (m : (ℓ : Loc nD τ sig) → Buf (Elt Ideal) ℓ) (h : Cert.Pre_KernelIdeal m) (hH : Hyps m) (c : Dev nD)
include h

/-- The kernel's first result at node `n`: the specification's last memory row. -/
theorem kernel_mem (n : Fin 10000) (q : Fin 128) :
    Pipeline.afterTail₀ cfgs (dats m hH) 0 (V0 m) [hostOps1] c main_v17 (ix2 n q) = ((I m c).run (S m c) 200).mem n.val q := by
  refine (congrFun (tail17 m c hH) (ix2 n q)).trans ((rows_apply _ _ n q).trans ((arr16 m c h hH _ _ q).trans ?_))
  exact congrArg (fun a => ((I m c).run (S m c) 200).mem a q) (Nat.div_add_mod n.val 8)

/-- The kernel's second result at node `n`: the specification's last time of update. -/
theorem kernel_lu (n : Fin 10000) :
    Pipeline.afterTail₀ cfgs (dats m hH) 0 (V0 m) [hostOps1] c main_v18 (ix1 n) = ((I m c).run (S m c) 200).lu n.val := by
  refine (congrFun (tail18 m c hH) (ix1 n)).trans ((col_apply _ _ n).trans ((arr17 m c h hH _ _ 0).trans ?_))
  exact congrArg (fun a => ((I m c).run (S m c) 200).lu a) (Nat.div_add_mod n.val 8)

end

/-- The arguments of the kernel's launch memory, as the reference's. -/
def args (m : (ℓ : Loc nD τ sig) → Buf (Elt Ideal) ℓ) (c : Dev nD) : RefStep.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)

open Cert.ReferenceIdeal.Value Idealize.ShloMosaic.StableHlo in
/-- The two idealized programs, launched on the same arguments with node words in range, end with equal results. -/
theorem algebraic : Cert.algebraic_KernelIdeal_ReferenceIdeal := by
  intro m g m' g' h hm
  have hH := Nodes.hyps_KernelIdeal m h
  have hargs : ∀ c, RefResult.args m' c = args m c := by
    intro c
    obtain ⟨h0, h1, h2, h3, h4, h5, h6, h7, h8, h9, h10, h11, h12, h13⟩ := hm c
    unfold RefResult.args args
    exact RefStep.Args.ext h0 h1 h2 h3 h4 h5 h6 h7 h8 h9 h10 h11 h12 h13
  have href : ∀ c, RefStep.Holds (args m c) 200 ((I m c).run (S m c) 200) (STEP^[200] (entryContents preI m' c)) := by
    intro c
    obtain ⟨hs, hd⟩ := Nodes.of_fn _ _ _ _ _ _ _ _ _ _ _ _ _ _ (h c)
    have e := RefResult.final m' c
    rw [hargs c] at e
    exact e hs hd
  refine ⟨fun c => Pipeline.afterTail₀ cfgs (dats m hH) 0 (V0 m) [hostOps1] c main_v17,
    fun c => Pipeline.afterTail₀ cfgs (dats m hH) 0 (V0 m) [hostOps1] c main_v18, ?_, ?_⟩
  · exact (θ_run _ _ _).mono (fun r hr c =>
      ⟨(hr.1 c).2 main_v17 (Pipeline.mem_restRefs_of main_v17 (by decide) (by decide)),
        (hr.1 c).2 main_v18 (Pipeline.mem_restRefs_of main_v18 (by decide) (by decide)), hr.2 c⟩)
      (θ_run_and (run_main m g hH) (unchanged m g hH))
  · exact (θ_run _ _ _).mono (fun r hr c =>
      ⟨(hr c).1.trans (funext fun i => by
          obtain ⟨n, q, rfl⟩ : ∃ (n : Fin 10000) (q : Fin 128), i = ix2 n q := ⟨i 0, i 1, eq_ix2 i⟩
          exact ((href c).mem n q).trans (kernel_mem m h hH c n q).symm),
        (hr c).2.1.trans (funext fun i => by
          obtain ⟨n, rfl⟩ : ∃ n : Fin 10000, i = ix1 n := ⟨i 0, eq_ix1 i⟩
          exact ((href c).lu n).trans (kernel_lu m h hH c n).symm),
        (hr c).2.2⟩)
      (run m' g')

end Cert.Algebraic
-- ==== Proof.lean ====
/- The certificate's claim: the three frames, that the idealized kernel is the kernel, and that it computes what the reference computes. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nodes_in_range
public import proofs.«01_k».proof.Proof.Gen.ReferenceIdeal.Run
public import proofs.«01_k».proof.Proof.Hyps
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference leaves its arguments and ends with every counter at zero. -/
theorem frame_reference : Cert.quiescent_ReferenceIdeal := fun m ρ _ =>
  (θ_run _ _ _).mono (fun r h => ⟨fun c => (h c).2.2, Idealize.ShloMosaic.sem_eq_zero_of_no_sems (by decide) r.2⟩)
    (Cert.ReferenceIdeal.Value.run m ρ)

/-- The certificate's claim: the programs' stated facts, then its parts in order. -/
theorem claim : Cert.Claim := ⟨Cert.Kernel.Gen.facts, Cert.KernelIdeal.Gen.facts, Cert.ReferenceIdeal.Gen.facts,
  Cert.Pre_nodes_in_range.Gen.facts,
  fun m ρ h => Cert.Kernel.Gen.frame m ρ (Cert.Nodes.hyps_Kernel m h),
  fun m ρ h => Cert.KernelIdeal.Gen.frame m ρ (Cert.Nodes.hyps_KernelIdeal m h),
  frame_reference,
  fun m ρ _ => frame_reference m ρ trivial,
  trivial,
  Cert.Algebraic.algebraic⟩

end Cert.Proof

end
